-- ==== Defs.lean ====
def Pre_Kernel (m : (ℓ : Loc Cert.Kernel.nD Cert.Kernel.τ Cert.Kernel.sig) → Buf (Elt Bits) ℓ) : Prop :=
  True

def Pre_Kernel_untied [hPre_untied : Cert.Pre_untied.Facts] (m : (ℓ : Loc Cert.Kernel.nD Cert.Kernel.τ Cert.Kernel.sig) → Buf (Elt Bits) ℓ) : Prop :=
  ∀ c : Dev Cert.Kernel.nD,
    (Cert.Pre_untied.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_untied : Cert.Pre_untied.Facts] (m : (ℓ : Loc Cert.KernelIdeal.nD Cert.KernelIdeal.τ Cert.KernelIdeal.sig) → Buf (Elt Ideal) ℓ) : Prop :=
  ∀ c : Dev Cert.KernelIdeal.nD,
    (Cert.Pre_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_untied [hPre_untied : Cert.Pre_untied.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_Kernel_pre_untied [hKernel : Cert.Kernel.Facts] [hPre_untied : Cert.Pre_untied.Facts] : Prop :=
  ∀ (m : (ℓ : Loc Cert.Kernel.nD Cert.Kernel.τ Cert.Kernel.sig) → Buf (Elt Bits) ℓ) (g : Dev Cert.Kernel.nD → PrngReg), Pre_Kernel_untied m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_untied : Cert.Pre_untied.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_untied [hReferenceIdeal : Cert.ReferenceIdeal.Facts] [hPre_untied : Cert.Pre_untied.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_untied m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_untied : Cert.Pre_untied.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_indices) = v2 c
          ∧ r.2.mem ((c.tc : Thread Cert.ReferenceIdeal.nD Cert.ReferenceIdeal.τ).loc Cert.ReferenceIdeal.main_cst_8) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_untied : Cert.Pre_untied.Facts),
    quiescent_Kernel (hKernel := hKernel)
    ∧ quiescent_Kernel_pre_untied (hKernel := hKernel) (hPre_untied := hPre_untied)
    ∧ quiescent_KernelIdeal (hKernelIdeal := hKernelIdeal) (hPre_untied := hPre_untied)
    ∧ quiescent_ReferenceIdeal (hReferenceIdeal := hReferenceIdeal)
    ∧ quiescent_ReferenceIdeal_pre_untied (hReferenceIdeal := hReferenceIdeal) (hPre_untied := hPre_untied)
    ∧ preserves_Kernel_KernelIdeal
    ∧ algebraic_KernelIdeal_ReferenceIdeal (hKernelIdeal := hKernelIdeal) (hReferenceIdeal := hReferenceIdeal) (hPre_untied := hPre_untied)
-- ==== Pre_untied.lean ====
abbrev S32768x768 : Shape := ⟨2, ![32768, 768]⟩
abbrev S768x64 : Shape := ⟨2, ![768, 64]⟩
abbrev S64 : Shape := ⟨1, ![64]⟩
abbrev S32768x64 : Shape := ⟨2, ![32768, 64]⟩
abbrev S1x64 : Shape := ⟨2, ![1, 64]⟩
abbrev S_ : Shape := ⟨0, ![]⟩
abbrev S32768 : Shape := ⟨1, ![32768]⟩
abbrev S32768x1 : Shape := ⟨2, ![32768, 1]⟩
abbrev S32768x3 : Shape := ⟨2, ![32768, 3]⟩

class Facts : Prop where
  bcast_S64_S1x64_1 : S64.BroadcastsInDim S1x64 (![1] : Fin 1 → Fin S1x64.rank)
  bcast_S1x64_S32768x64_0_1 : S1x64.BroadcastsInDim S32768x64 (![0, 1] : Fin 2 → Fin S32768x64.rank)
  reducesTo_S32768x64_S32768_d1 : S32768x64.ReducesTo [1] S32768
  h_S_ : 0 < S_.numel
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x64_0_1 : S32768x1.BroadcastsInDim S32768x64 (![0, 1] : Fin 2 → Fin S32768x64.rank)
  sliceFits_S32768x64_S32768x3 : S32768x64.Slices (fun _ => 0) S32768x3
  slices_S32768x3_S32768x1_0_0 : S32768x3.Slices ![0, 0] S32768x1
  shapeCasts_S32768x1_S32768 : S32768x1.ShapeCasts S32768
  slices_S32768x3_S32768x1_0_1 : S32768x3.Slices ![0, 1] S32768x1
  slices_S32768x3_S32768x1_0_2 : S32768x3.Slices ![0, 2] S32768x1
  reducesTo_S32768_S_d0 : S32768.ReducesTo [0] S_
  dot_S32768x768_S768x64_S32768x64_1_0_0_1_n_n_wf : DotDims.WF S32768x768 S768x64 S32768x64 [1] [0] [0] [1] [] []

variable [Facts]

def dot_S32768x768_S768x64_S32768x64_1_0_0_1_n_n : DotDims S32768x768 S768x64 S32768x64 where
  lhsContracting := [1]
  rhsContracting := [0]
  lhsNonContracting := [0]
  rhsNonContracting := [1]
  lhsBatch := []
  rhsBatch := []
  wf := dot_S32768x768_S768x64_S32768x64_1_0_0_1_n_n_wf
def fn_part1 {F : FTy → Type} [FloatOps F] (main_values : FVec F S32768x3 .f32) (main_v16 : FVec F S32768 .f32) (main_v18 : FVec F S32768 .f32) : IVec S_ 1 :=
  let main_v19 : IVec S32768 1 := cmpf .ogt main_v16 main_v18
  let main_v20 : FVec F S32768x1 .f32 := (extractStridedSlice S32768x1 ![0, 1] · slices_S32768x3_S32768x1_0_1) main_values
  let main_v21 : FVec F S32768 .f32 := shapeCast S32768 main_v20 shapeCasts_S32768x1_S32768
  let main_v22 : FVec F S32768x1 .f32 := (extractStridedSlice S32768x1 ![0, 2] · slices_S32768x3_S32768x1_0_2) main_values
  let main_v23 : FVec F S32768 .f32 := shapeCast S32768 main_v22 shapeCasts_S32768x1_S32768
  let main_v24 : IVec S32768 1 := cmpf .ogt main_v21 main_v23
  let main_v25 : IVec S32768 1 := andi main_v19 main_v24
  let main_c : IVec S_ 1 := constantI S_ 1 1#1
  let main_v26 : IVec S_ 1 := (fun x v => Host.reduce IntOp.andi x v reducesTo_S32768_S_d0 h_S_) main_v25 main_c
  main_v26

def fn {F : FTy → Type} [FloatOps F] (main_arg0 : FVec F S32768x768 .f32) (main_arg1 : FVec F S768x64 .f32) (main_arg2 : FVec F S64 .f32) : IVec S_ 1 :=
  let main_v0 : FVec F S32768x64 .f32 := (fun l r => Host.dotGeneral dot_S32768x768_S768x64_S32768x64_1_0_0_1_n_n none l r) main_arg0 main_arg1
  let main_v1 : FVec F S1x64 .f32 := broadcastInDim S1x64 ![1] bcast_S64_S1x64_1 main_arg2
  let main_v2 : FVec F S32768x64 .f32 := broadcastInDim S32768x64 ![0, 1] bcast_S1x64_S32768x64_0_1 main_v1
  let main_v3 : FVec F S32768x64 .f32 := addf main_v0 main_v2
  let main_cst : FVec F S_ .f32 := constant S_ .f32 0xFF800000#32
  let main_v4 : FVec F S32768 .f32 := (fun x v => Host.reduce FloatOps.maximumf x v reducesTo_S32768x64_S32768_d1 h_S_) main_v3 main_cst
  let main_cst_0 : FVec F S_ .f32 := constant S_ .f32 0xFF800000#32
  let main_v5 : FVec F S32768 .f32 := broadcastInDim S32768 ![] bcast_S_S32768 main_cst_0
  let main_v6 : FVec F S32768 .f32 := maximumf main_v5 main_v4
  let main_v7 : FVec F S32768x1 .f32 := broadcastInDim S32768x1 ![0] bcast_S32768_S32768x1_0 main_v6
  let main_v8 : FVec F S32768x64 .f32 := broadcastInDim S32768x64 ![0, 1] bcast_S32768x1_S32768x64_0_1 main_v7
  let main_v9 : FVec F S32768x64 .f32 := subf main_v3 main_v8
  let main_v10 : FVec F S32768x64 .f32 := Host.exp main_v9
  let main_cst_1 : FVec F S_ .f32 := constant S_ .f32 0x00000000#32
  let main_v11 : FVec F S32768 .f32 := (fun x v => Host.reduceAdd x v reducesTo_S32768x64_S32768_d1 h_S_) main_v10 main_cst_1
  let main_v12 : FVec F S32768x1 .f32 := broadcastInDim S32768x1 ![0] bcast_S32768_S32768x1_0 main_v11
  let main_v13 : FVec F S32768x64 .f32 := broadcastInDim S32768x64 ![0, 1] bcast_S32768x1_S32768x64_0_1 main_v12
  let main_v14 : FVec F S32768x64 .f32 := Host.divf main_v10 main_v13
  let main_values : FVec F S32768x3 .f32 := (fun x => (Host.topK S32768x3 1 (FloatOps.cmpfTotal .gt) x sliceFits_S32768x64_S32768x3).1) main_v14
  let main_indices : IVec S32768x3 32 := (fun x => (Host.topK S32768x3 1 (FloatOps.cmpfTotal .gt) x sliceFits_S32768x64_S32768x3).2) main_v14
  let main_v15 : FVec F S32768x1 .f32 := (extractStridedSlice S32768x1 ![0, 0] · slices_S32768x3_S32768x1_0_0) main_values
  let main_v16 : FVec F S32768 .f32 := shapeCast S32768 main_v15 shapeCasts_S32768x1_S32768
  let main_v17 : FVec F S32768x1 .f32 := (extractStridedSlice S32768x1 ![0, 1] · slices_S32768x3_S32768x1_0_1) main_values
  let main_v18 : FVec F S32768 .f32 := shapeCast S32768 main_v17 shapeCasts_S32768x1_S32768
  fn_part1 (F := F) main_values main_v16 main_v18
-- ==== Kernel.lean ====
abbrev S32768x768 : Shape := ⟨2, ![32768, 768]⟩
abbrev S768x64 : Shape := ⟨2, ![768, 64]⟩
abbrev S64 : Shape := ⟨1, ![64]⟩
abbrev S128x128 : Shape := ⟨2, ![128, 128]⟩
abbrev S1x64 : Shape := ⟨2, ![1, 64]⟩
abbrev S64x32768 : Shape := ⟨2, ![64, 32768]⟩
abbrev S2x32768 : Shape := ⟨2, ![2, 32768]⟩
abbrev S32768x64 : Shape := ⟨2, ![32768, 64]⟩
abbrev S32768x2 : Shape := ⟨2, ![32768, 2]⟩
abbrev S_ : Shape := ⟨0, ![]⟩
abbrev S1024x768 : Shape := ⟨2, ![1024, 768]⟩
abbrev S64x1024 : Shape := ⟨2, ![64, 1024]⟩
abbrev S2x1024 : Shape := ⟨2, ![2, 1024]⟩
abbrev S64x1 : Shape := ⟨2, ![64, 1]⟩
abbrev S1024x64 : Shape := ⟨2, ![1024, 64]⟩
abbrev S1024 : Shape := ⟨1, ![1024]⟩
abbrev S1x1024 : Shape := ⟨2, ![1, 1024]⟩
abbrev S64x128 : Shape := ⟨2, ![64, 128]⟩

abbrev nBuf : Space → Nat
  | .hbm => 15
  | .vmem => 12
  | .smem => 0
  | _ => 0

abbrev bufTy : (tb : Table) → Fin (tcTables nBuf tb) → BufTy
  | .hbm, ⟨0, _⟩ => ⟨S32768x768, .f32⟩
  | .hbm, ⟨1, _⟩ => ⟨S768x64, .f32⟩
  | .hbm, ⟨2, _⟩ => ⟨S64, .f32⟩
  | .hbm, ⟨3, _⟩ => ⟨S128x128, .i32⟩
  | .hbm, ⟨4, _⟩ => ⟨S128x128, .i32⟩
  | .hbm, ⟨5, _⟩ => ⟨S128x128, .i1⟩
  | .hbm, ⟨6, _⟩ => ⟨S128x128, .bf16⟩
  | .hbm, ⟨7, _⟩ => ⟨S1x64, .f32⟩
  | .hbm, ⟨8, _⟩ => ⟨S64x32768, .f32⟩
  | .hbm, ⟨9, _⟩ => ⟨S64x32768, .f32⟩
  | .hbm, ⟨10, _⟩ => ⟨S2x32768, .i32⟩
  | .hbm, ⟨11, _⟩ => ⟨S32768x64, .f32⟩
  | .hbm, ⟨12, _⟩ => ⟨S32768x64, .f32⟩
  | .hbm, ⟨13, _⟩ => ⟨S32768x2, .i32⟩
  | .hbm, ⟨14, _⟩ => ⟨S_, .f32⟩
  | .local _ .vmem, ⟨0, _⟩ => ⟨S1024x768, .f32⟩
  | .local _ .vmem, ⟨1, _⟩ => ⟨S1024x768, .f32⟩
  | .local _ .vmem, ⟨2, _⟩ => ⟨S768x64, .f32⟩
  | .local _ .vmem, ⟨3, _⟩ => ⟨S1x64, .f32⟩
  | .local _ .vmem, ⟨4, _⟩ => ⟨S128x128, .bf16⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S2x1024, .i32⟩
  | .local _ .vmem, ⟨10, _⟩ => ⟨S2x1024, .i32⟩
  | .local _ .vmem, ⟨11, _⟩ => ⟨S64x1, .f32⟩
  | _, _ => ⟨S32768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_v5_0 : Ref sig .tc := ⟨.hbm, 8, rfl⟩
abbrev main_call0_v5_1 : Ref sig .tc := ⟨.hbm, 9, rfl⟩
abbrev main_call0_v5_2 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x1024 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S32768x768 : Shape := ⟨2, ![32768, 768]⟩
abbrev S768x64 : Shape := ⟨2, ![768, 64]⟩
abbrev S64 : Shape := ⟨1, ![64]⟩
abbrev S32768x64 : Shape := ⟨2, ![32768, 64]⟩
abbrev S1x64 : Shape := ⟨2, ![1, 64]⟩
abbrev S_ : Shape := ⟨0, ![]⟩
abbrev S32768 : Shape := ⟨1, ![32768]⟩
abbrev S32768x1 : Shape := ⟨2, ![32768, 1]⟩
abbrev S32768x2 : Shape := ⟨2, ![32768, 2]⟩
abbrev S32768x2x1 : Shape := ⟨3, ![32768, 2, 1]⟩
abbrev S32768x2x2 : Shape := ⟨3, ![32768, 2, 2]⟩

abbrev nBuf : Space → Nat
  | .hbm => 58
  | .vmem => 0
  | .smem => 0
  | _ => 0

abbrev bufTy : (tb : Table) → Fin (tcTables nBuf tb) → BufTy
  | .hbm, ⟨0, _⟩ => ⟨S32768x768, .f32⟩
  | .hbm, ⟨1, _⟩ => ⟨S768x64, .f32⟩
  | .hbm, ⟨2, _⟩ => ⟨S64, .f32⟩
  | .hbm, ⟨3, _⟩ => ⟨S32768x64, .f32⟩
  | .hbm, ⟨4, _⟩ => ⟨S1x64, .f32⟩
  | .hbm, ⟨5, _⟩ => ⟨S32768x64, .f32⟩
  | .hbm, ⟨6, _⟩ => ⟨S32768x64, .f32⟩
  | .hbm, ⟨7, _⟩ => ⟨S_, .f32⟩
  | .hbm, ⟨8, _⟩ => ⟨S32768, .f32⟩
  | .hbm, ⟨9, _⟩ => ⟨S_, .f32⟩
  | .hbm, ⟨10, _⟩ => ⟨S32768, .f32⟩
  | .hbm, ⟨11, _⟩ => ⟨S32768, .f32⟩
  | .hbm, ⟨12, _⟩ => ⟨S32768x1, .f32⟩
  | .hbm, ⟨13, _⟩ => ⟨S32768x64, .f32⟩
  | .hbm, ⟨14, _⟩ => ⟨S32768x64, .f32⟩
  | .hbm, ⟨15, _⟩ => ⟨S32768x64, .f32⟩
  | .hbm, ⟨16, _⟩ => ⟨S_, .f32⟩
  | .hbm, ⟨17, _⟩ => ⟨S32768, .f32⟩
  | .hbm, ⟨18, _⟩ => ⟨S32768x1, .f32⟩
  | .hbm, ⟨19, _⟩ => ⟨S32768x64, .f32⟩
  | .hbm, ⟨20, _⟩ => ⟨S32768x64, .f32⟩
  | .hbm, ⟨21, _⟩ => ⟨S32768x2, .f32⟩
  | .hbm, ⟨22, _⟩ => ⟨S32768x2, .i32⟩
  | .hbm, ⟨23, _⟩ => ⟨S_, .f32⟩
  | .hbm, ⟨24, _⟩ => ⟨S32768x64, .f32⟩
  | .hbm, ⟨25, _⟩ => ⟨S32768, .i32⟩
  | .hbm, ⟨26, _⟩ => ⟨S32768x1, .i32⟩
  | .hbm, ⟨27, _⟩ => ⟨S_, .i32⟩
  | .hbm, ⟨28, _⟩ => ⟨S32768x1, .i32⟩
  | .hbm, ⟨29, _⟩ => ⟨S32768x1, .i1⟩
  | .hbm, ⟨30, _⟩ => ⟨S_, .i32⟩
  | .hbm, ⟨31, _⟩ => ⟨S32768x1, .i32⟩
  | .hbm, ⟨32, _⟩ => ⟨S32768x1, .i32⟩
  | .hbm, ⟨33, _⟩ => ⟨S32768x1, .i32⟩
  | .hbm, ⟨34, _⟩ => ⟨S_, .i32⟩
  | .hbm, ⟨35, _⟩ => ⟨S32768x2, .i32⟩
  | .hbm, ⟨36, _⟩ => ⟨S32768x2, .i1⟩
  | .hbm, ⟨37, _⟩ => ⟨S_, .i32⟩
  | .hbm, ⟨38, _⟩ => ⟨S32768x2, .i32⟩
  | .hbm, ⟨39, _⟩ => ⟨S32768x2, .i32⟩
  | .hbm, ⟨40, _⟩ => ⟨S32768x2, .i32⟩
  | .hbm, ⟨41, _⟩ => ⟨S32768x2, .i32⟩
  | .hbm, ⟨42, _⟩ => ⟨S32768x2x1, .i32⟩
  | .hbm, ⟨43, _⟩ => ⟨S32768x2x1, .i32⟩
  | .hbm, ⟨44, _⟩ => ⟨S32768x2x2, .i32⟩
  | .hbm, ⟨45, _⟩ => ⟨S_, .f32⟩
  | .hbm, ⟨46, _⟩ => ⟨S32768x2, .f32⟩
  | .hbm, ⟨47, _⟩ => ⟨S32768x64, .f32⟩
  | .hbm, ⟨48, _⟩ => ⟨S_, .f32⟩
  | .hbm, ⟨49, _⟩ => ⟨S_, .f32⟩
  | .hbm, ⟨50, _⟩ => ⟨S32768x64, .f32⟩
  | .hbm, ⟨51, _⟩ => ⟨S_, .f32⟩
  | .hbm, ⟨52, _⟩ => ⟨S32768x64, .f32⟩
  | .hbm, ⟨53, _⟩ => ⟨S32768x64, .i1⟩
  | .hbm, ⟨54, _⟩ => ⟨S32768x64, .f32⟩
  | .hbm, ⟨55, _⟩ => ⟨S32768x64, .f32⟩
  | .hbm, ⟨56, _⟩ => ⟨S32768x64, .f32⟩
  | .hbm, ⟨57, _⟩ => ⟨S_, .f32⟩
  | _, _ => ⟨S32768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_values : Ref sig .tc := ⟨.hbm, 21, rfl⟩
abbrev main_indices : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c : Ref sig .tc := ⟨.hbm, 27, rfl⟩
abbrev main_v18 : Ref sig .tc := ⟨.hbm, 28, rfl⟩
abbrev main_v19 : Ref sig .tc := ⟨.hbm, 29, rfl⟩
abbrev main_c_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_4 : Ref sig .tc := ⟨.hbm, 34, rfl⟩
abbrev main_v23 : Ref sig .tc := ⟨.hbm, 35, rfl⟩
abbrev main_v24 : Ref sig .tc := ⟨.hbm, 36, rfl⟩
abbrev main_c_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_call0_call0_cst : Ref sig .tc := ⟨.hbm, 48, rfl⟩
abbrev main_call0_call0_v0 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_8 : Ref sig .tc := ⟨.hbm, 57, rfl⟩

abbrev nD : Nat := 1
abbrev τ : Topo := Topo.v7x

variable {F : FTy → Type} [FloatOps F]
-- ==== Proof.RowMath.lean ====
/-
  Facts about ONE ROW of 64 extended reals, with no program in sight: the softmax of the row, its two greatest
  entries, and what the two programs' ways of finding them (an arg-max, twice; a stable sort) answer.
-/
module

public import Idealize.ShloMosaic.PureOps.Ideal.Laws
public import Idealize.ShloMosaic.Lib.IdealHost
public import Idealize.ShloMosaic.Lib.SortFacts
public import Idealize.ShloMosaic.Lib.ValueIdx

@[expose] public section

noncomputable section

namespace Cert.Proof

open Idealize.ShloMosaic
open scoped BigOperators

/-- A sum of reals, cast, is the sum of the casts. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A row's greatest entry, as the fold of `max` from `⊥` that both programs' reductions are. -/
def rowMax (l : Fin 64 → EReal) : EReal := Finset.univ.fold max ⊥ l

/-- A row's exponentials, shifted by its greatest entry. -/
def expo (l : Fin 64 → EReal) (j : Fin 64) : EReal := Ideal.exp (l j - rowMax l)

/-- A row's softmax. -/
def prob (l : Fin 64 → EReal) (j : Fin 64) : EReal := Ideal.div (expo l j) (∑ k, expo l k)

/-- Positions `a` and `b` hold a row's greatest and second greatest entries, and no other entry equals either. -/
def TopTwo (p : Fin 64 → EReal) (a b : Fin 64) : Prop := p b < p a ∧ ∀ k, k ≠ a → k ≠ b → p k < p b

/-- Every entry is at most the greatest. -/
theorem le_rowMax (l : Fin 64 → EReal) (j : Fin 64) : l j ≤ rowMax l :=
  (Finset.le_fold_max (l j)).2 (Or.inr ⟨j, Finset.mem_univ j, le_rfl⟩)

/-- The greatest entry is some entry. -/
theorem exists_rowMax (l : Fin 64 → EReal) : ∃ j, l j = rowMax l := by
  rcases (Finset.le_fold_max (b := (⊥ : EReal)) (f := l) (s := Finset.univ) (rowMax l)).1 le_rfl with h | ⟨j, _, h⟩
  · exact ⟨0, le_antisymm (le_rowMax l 0) (h.trans bot_le)⟩
  · exact ⟨j, le_antisymm (le_rowMax l j) h⟩

/-- An entry that no other reaches is the greatest. -/
theorem rowMax_eq (x : Fin 64 → EReal) (a : Fin 64) (h : ∀ k, k ≠ a → x k < x a) : rowMax x = x a := by
  obtain ⟨j, hj⟩ := exists_rowMax x
  by_cases hja : j = a
  · rw [← hj, hja]
  · exact absurd (le_rowMax x a) (not_le.2 (hj ▸ h j hja))

/-- Where the exponentials are not all one value, the greatest entry is finite: they are reals in `[0, 1]`, and one is `1`. -/
theorem expo_real (l : Fin 64 → EReal) (h : ∃ i j, expo l i ≠ expo l j) :
    ∃ f : Fin 64 → ℝ, (∀ j, expo l j = (f j : EReal)) ∧ (∀ j, 0 ≤ f j) ∧ (∀ j, f j ≤ 1) ∧ ∃ a, f a = 1 := by
  obtain ⟨i, j, hij⟩ := h
  have hle := le_rowMax l
  obtain ⟨a, ha⟩ := exists_rowMax l
  generalize hM : rowMax l = M at hle ha
  have he : ∀ k, expo l k = Ideal.exp (l k - M) := fun k => by rw [← hM]; rfl
  induction M with
  | bot => exact absurd (by rw [he, he, le_bot_iff.1 (hle i), le_bot_iff.1 (hle j)]) hij
  | top => exact absurd (by rw [he, he, EReal.sub_top, EReal.sub_top]) hij
  | coe M =>
    have key : ∀ k, ∃ r : ℝ, expo l k = (r : EReal) ∧ 0 ≤ r ∧ r ≤ 1 := by
      intro k
      rw [he]
      have hk := hle k
      generalize l k = x at hk
      induction x with
      | bot => exact ⟨0, by rw [EReal.bot_sub]; rfl, le_rfl, zero_le_one⟩
      | top => exact absurd hk (not_le.2 (EReal.coe_lt_top M))
      | coe r =>
        refine ⟨Real.exp (r - M), by rw [← EReal.coe_sub]; rfl, (Real.exp_pos _).le, ?_⟩
        rw [Real.exp_le_one_iff]
        have := EReal.coe_le_coe_iff.1 hk
        linarith
    choose f hf h0 h1 using key
    refine ⟨f, hf, h0, h1, a, ?_⟩
    have := hf a
    rw [he, ha, ← EReal.coe_sub, sub_self] at this
    have h2 : ((Real.exp 0 : ℝ) : EReal) = (f a : EReal) := this
    rw [Real.exp_zero] at h2
    exact (EReal.coe_eq_coe_iff.1 h2).symm

/-- What a row whose softmax has two strictly greatest entries gives the kernel: its exponentials have the same two, the
    greatest is `1`, none is negative, and their sum is not zero. -/
theorem top_facts (l : Fin 64 → EReal) (a b : Fin 64) (h : TopTwo (prob l) a b) :
    TopTwo (expo l) a b ∧ expo l a = 1 ∧ (∀ j, 0 ≤ expo l j) ∧ (∑ k, expo l k) ≠ 0 := by
  have hne : ∃ i j, expo l i ≠ expo l j := ⟨b, a, fun q => absurd h.1 (by unfold prob; rw [q]; exact lt_irrefl _)⟩
  obtain ⟨f, hf, h0, h1, c, hc⟩ := expo_real l hne
  have hsum : (∑ k, expo l k) = ((∑ k, f k : ℝ) : EReal) := by
    rw [coe_sum]; exact Finset.sum_congr rfl fun k _ => hf k
  have hpos : 0 < ∑ k, f k := lt_of_lt_of_le (by rw [hc]; exact one_pos) (Finset.single_le_sum (fun k _ => h0 k) (Finset.mem_univ c))
  have hS : (∑ k, expo l k) ≠ 0 := by rw [hsum]; exact_mod_cast hpos.ne'
  have hp : ∀ k, prob l k = ((f k * (∑ k, f k)⁻¹ : ℝ) : EReal) := by
    intro k
    unfold prob
    unfold Ideal.div
    rw [if_neg hS, hsum, hf k, ← EReal.coe_inv, ← EReal.coe_mul]
  have hlt : ∀ i j, prob l i < prob l j → expo l i < expo l j := by
    intro i j hij
    rw [hp, hp, EReal.coe_lt_coe_iff] at hij
    rw [hf, hf, EReal.coe_lt_coe_iff]
    exact lt_of_mul_lt_mul_right hij (inv_nonneg.2 hpos.le)
  have ht : TopTwo (expo l) a b := ⟨hlt _ _ h.1, fun k ha hb => hlt _ _ (h.2 k ha hb)⟩
  refine ⟨ht, ?_, fun j => by rw [hf]; exact_mod_cast h0 j, hS⟩
  have hca : c = a := by
    by_contra hca
    have hlt' : expo l c < expo l a := by
      by_cases hcb : c = b
      · rw [hcb]; exact ht.1
      · exact (ht.2 c hca hcb).trans ht.1
    rw [hf, hf, EReal.coe_lt_coe_iff, hc] at hlt'
    exact absurd (h1 a) (not_le.2 hlt')
  rw [hf, ← hca, hc]; rfl

/-- The greatest softmax is the reciprocal of the sum of the exponentials. -/
theorem prob_first (l : Fin 64 → EReal) (a b : Fin 64) (h : TopTwo (prob l) a b) :
    Ideal.div 1 (∑ k, expo l k) = prob l a := by
  unfold prob; rw [(top_facts l a b h).2.1]

/-- Any softmax is its exponential times that reciprocal. -/
theorem prob_mul (l : Fin 64 → EReal) (a b : Fin 64) (h : TopTwo (prob l) a b) (j : Fin 64) :
    expo l j * Ideal.div 1 (∑ k, expo l k) = prob l j :=
  Ideal.mul_one_div (top_facts l a b h).2.2.2

/-- A row with its greatest entry overwritten by `-1`, as the kernel's second round reads it. -/
def masked (x : Fin 64 → EReal) (a : Fin 64) (j : Fin 64) : EReal := if j = a then -1 else x j

/-- In the overwritten row the second greatest entry is the greatest. -/
theorem masked_top (l : Fin 64 → EReal) (a b : Fin 64) (h : TopTwo (prob l) a b) :
    masked (expo l) a b = expo l b ∧ ∀ k, k ≠ b → masked (expo l) a k < masked (expo l) a b := by
  obtain ⟨ht, -, h0, -⟩ := top_facts l a b h
  have hba : b ≠ a := fun q => absurd ht.1 (by rw [q]; exact lt_irrefl _)
  have hb : masked (expo l) a b = expo l b := if_neg hba
  refine ⟨hb, fun k hk => ?_⟩
  rw [hb]
  unfold masked
  split
  · exact lt_of_lt_of_le (show (-1 : EReal) < 0 from by
      rw [show (-1 : EReal) = ((-1 : ℝ) : EReal) from by simp, show (0 : EReal) = ((0 : ℝ) : EReal) from rfl, EReal.coe_lt_coe_iff]
      norm_num) (h0 b)
  · rename_i hka; exact ht.2 k hka hk

/-- In the row itself the greatest entry is strictly so. -/
theorem TopTwo.first {p : Fin 64 → EReal} {a b : Fin 64} (h : TopTwo p a b) (k : Fin 64) (hk : k ≠ a) : p k < p a := by
  by_cases hkb : k = b
  · rw [hkb]; exact h.1
  · exact (h.2 k hk hkb).trans h.1

/-- The two positions differ. -/
theorem TopTwo.ne {p : Fin 64 → EReal} {a b : Fin 64} (h : TopTwo p a b) : b ≠ a :=
  fun q => absurd h.1 (by rw [q]; exact lt_irrefl _)

/-! ## The sorted order of a row -/

/-- The comparator a top-k sorts by: strictly greater. -/
def gt (p : Fin 64 → EReal) (k k' : Fin 64) : Bool := (FloatOps.cmpfTotal (F := Ideal) (φ := .f32) .gt (p k) (p k')) == 1#1

/-- The position a stable sort of the row, greatest first, puts at place `n`. -/
def place (p : Fin 64 → EReal) (n : Fin 64) : Fin 64 := sortedFrom (gt p) n

/-- The comparator is the strict order. -/
theorem gt_iff (p : Fin 64 → EReal) (k k' : Fin 64) : gt p k k' = true ↔ p k' < p k := by
  unfold gt
  rw [Ideal.cmpfTotal_def]
  show (BitVec.ofBool (decide (p k' < p k)) == 1#1) = true ↔ _
  by_cases h : p k' < p k
  · simp [h]
  · simp [h]

/-- Later places hold no greater entries. -/
theorem place_le (p : Fin 64 → EReal) (i j : Fin 64) (hij : i < j) : p (place p j) ≤ p (place p i) := by
  have h := sortedFrom_noInversion (gt p) (gt p)
    (fun a b h => by
      rw [gt_iff] at h
      exact Bool.eq_false_iff.2 fun q => absurd ((gt_iff p b a).1 q) (not_lt.2 h.le))
    (fun _ _ h => h)
    (fun a b c hab hbc => by
      have hab' : ¬ p b < p a := fun q => by rw [(gt_iff p a b).2 q] at hab; exact absurd hab (by decide)
      have hbc' : ¬ p c < p b := fun q => by rw [(gt_iff p b c).2 q] at hbc; exact absurd hbc (by decide)
      exact Bool.eq_false_iff.2 fun q => absurd ((gt_iff p a c).1 q) (not_lt.2 ((not_lt.1 hab').trans (not_lt.1 hbc'))))
    i j hij
  exact not_lt.1 fun q => by
    rw [show gt p (sortedFrom (gt p) j) (sortedFrom (gt p) i) = true from (gt_iff p _ _).2 q] at h
    exact absurd h (by decide)

/-- Where the first three places of the sorted row are strictly decreasing, the first two are its two strictly greatest
    entries. -/
theorem topTwo_place (p : Fin 64 → EReal) (h1 : p (place p 1) < p (place p 0)) (h2 : p (place p 2) < p (place p 1)) :
    TopTwo p (place p 0) (place p 1) := by
  refine ⟨h1, fun k ha hb => ?_⟩
  obtain ⟨n, rfl⟩ := sortedFrom_surjective (gt p) k
  have hn0 : n ≠ 0 := fun q => ha (by rw [q]; rfl)
  have hn1 : n ≠ 1 := fun q => hb (by rw [q]; rfl)
  refine lt_of_le_of_lt ?_ h2
  rcases eq_or_ne n 2 with q | q
  · rw [q]; exact le_rfl
  · exact place_le p 2 n (by rw [Fin.lt_def]; have := Fin.val_ne_of_ne hn0; have := Fin.val_ne_of_ne hn1; have := Fin.val_ne_of_ne q
                             show 2 < n.val; simp at *; omega)

end Cert.Proof

end
-- ==== Proof.Reads.lean ====
/-
  Operations of the two programs read at an index, for matrices of any size: the reductions over one axis
  (maximum, sum, arg-max), the host's softmax and top-k along rows, its running sum down the columns and its
  scatter of ones.
-/
module

public import proofs.«01_k».proof.Proof.RowMath
public import Idealize.ShloMosaic.Lib.Routing.Ops
public import Idealize.ShloMosaic.Lib.Routing.OpsPair
public import Idealize.ShloMosaic.Lib.Routing.OpsSet
public import Idealize.ShloMosaic.Lib.ValueLayout
public import Idealize.ShloMosaic.Lib.Pipeline.Value

@[expose] public section

noncomputable section

namespace Cert.Proof

open Idealize.ShloMosaic Idealize.ShloMosaic.ValueIdx
open scoped BigOperators

/-- A matrix's shape. -/
abbrev Mat (a b : ℕ) : Shape := ⟨2, ![a, b]⟩

/-- A vector's shape. -/
abbrev Row (a : ℕ) : Shape := ⟨1, ![a]⟩

/-- Inserting row `k` above column `q` gives the entry `(k, q)`. -/
theorem lift_col {A B : ℕ} (h : (Mat A B).Reduces [0] (Row B)) (q : Fin B) (k : Fin A) :
    h.lift (ix1 q) k = ix2 k q := by
  funext c
  match c with
  | ⟨0, _⟩ => exact Fin.ext rfl
  | ⟨1, _⟩ => exact Fin.ext rfl

/-- Inserting column `k` beside row `r` gives the entry `(r, k)`. -/
theorem lift_row {A B : ℕ} (h : (Mat A B).Reduces [1] (Row A)) (r : Fin A) (k : Fin B) :
    h.lift (ix1 r) k = ix2 r k := by
  funext c
  match c with
  | ⟨0, _⟩ => exact Fin.ext rfl
  | ⟨1, _⟩ => exact Fin.ext rfl

/-- The f32 word of minus infinity is `⊥`. -/
theorem ofBits_neg_inf : Ideal.ofBits .f32 0xFF800000#32 = ⊥ := by
  simp [Ideal.ofBits]
  try decide

/-- A column's maximum: the row maximum of the column's entries. -/
theorem colMax_apply {B : ℕ} (x : FVec Ideal (Mat 64 B) .f32) (h : (Mat 64 B).Reduces [0] (Row B)) (hφ : FKind.Formats .f32)
    (hacc : (0xFF800000#32 : BitVec 32) = FKind.maximumf.neutral .f32 hφ) (q : Fin B) :
    multiReduction .maximumf [0] (Row B) x 0xFF800000#32 h hφ hacc (ix1 q) = rowMax fun e => x (ix2 e q) := by
  rw [Ideal.multiReduction_maximumf_single, Ideal.ofBits_def, ofBits_neg_inf]
  unfold rowMax
  exact congrArg (Finset.fold max (⊥ : EReal) · Finset.univ) (funext fun e => congrArg x (lift_col h q e))

/-- A column's sum. -/
theorem colSum_apply {A B : ℕ} (x : FVec Ideal (Mat A B) .f32) (h : (Mat A B).Reduces [0] (Row B)) (hφ : FKind.Formats .f32)
    (hacc : (0x00000000#32 : BitVec 32) = FKind.add.neutral .f32 hφ) (q : Fin B) :
    multiReduction .add [0] (Row B) x 0x00000000#32 h hφ hacc (ix1 q) = ∑ e, x (ix2 e q) := by
  rw [Ideal.multiReduction_add_single]
  exact Finset.sum_congr rfl fun e _ => congrArg x (lift_col h q e)

/-- The arg-max down a column whose greatest entry stands alone at row `a` is `a`. -/
theorem argMax_apply {A B : ℕ} (x : FVec Ideal (Mat A B) .f32) (h : (Mat A B).Reduces [0] (Row B)) (q : Fin B) (a : Fin A)
    (ha : ∀ k, k ≠ a → x (ix2 k q) < x (ix2 a q)) :
    reduceIndex .argMax 0 (Row B) x h (ix1 q) = BitVec.ofNat 32 a.val := by
  have hmem : ∀ i, i ∈ (Finset.univ.filter fun i : (Mat A B).Idx => h.drop i = ix1 q) ↔ ∃ k : Fin A, ix2 k q = i := fun i => by
    rw [h.filter_drop_eq_image_lift, Finset.mem_image]
    exact ⟨fun ⟨k, _, e⟩ => ⟨k, (lift_col h q k).symm.trans e⟩, fun ⟨k, e⟩ => ⟨k, Finset.mem_univ _, (lift_col h q k).trans e⟩⟩
  have key : ∀ s : Finset (Mat A B).Idx, s = {ix2 a q} →
      BitVec.ofNat 32 (Option.getD (s.image fun i => (i 0).val).min 0) = BitVec.ofNat 32 a.val := by
    rintro _ rfl
    rw [Finset.image_singleton, Finset.min_singleton]
    rfl
  refine key _ ?_
  ext i
  refine (@Finset.mem_filter _ _ (_) _ _).trans ?_
  rw [Finset.mem_singleton, hmem]
  constructor
  · rintro ⟨⟨k, rfl⟩, hk⟩
    by_contra hne
    have hka : k ≠ a := fun e => hne (by rw [e])
    have := hk (ix2 a q) ((hmem _).2 ⟨a, rfl⟩)
    exact this (ha k hka)
  · rintro rfl
    refine ⟨⟨a, rfl⟩, fun i' hi' => ?_⟩
    obtain ⟨k, rfl⟩ := (hmem _).1 hi'
    show ¬ x (ix2 a q) < x (ix2 k q)
    by_cases hk : k = a
    · rw [hk]; exact lt_irrefl _
    · exact (ha k hk).asymm

/-- The host's maximum of every row, as its operations write it. -/
def hostMax {R : ℕ} (L : FVec Ideal (Mat R 64) .f32) (h0 : (⟨0, ![]⟩ : Shape).BroadcastsInDim (Row R) (![] : Fin 0 → Fin (Row R).rank))
    (hr : (Mat R 64).ReducesTo [1] (Row R)) (hu : 0 < (⟨0, ![]⟩ : Shape).numel) : FVec Ideal (Row R) .f32 :=
  maximumf (broadcastInDim (Row R) ![] h0 (constant ⟨0, ![]⟩ .f32 0xFF800000#32))
    (Host.reduce FloatOps.maximumf L (constant ⟨0, ![]⟩ .f32 0xFF800000#32) hr hu)

/-- The host's maximum of row `r`. -/
theorem hostMax_apply {R : ℕ} (L : FVec Ideal (Mat R 64) .f32) (h0) (hr : (Mat R 64).ReducesTo [1] (Row R)) (hu)
    (hs : (Mat R 64).Reduces [1] (Row R)) (r : Fin R) : hostMax L h0 hr hu (ix1 r) = rowMax fun k => L (ix2 r k) := by
  have hf : Host.reduce (FloatOps.maximumf (F := Ideal) (φ := .f32)) L (constant ⟨0, ![]⟩ .f32 0xFF800000#32) hr hu (ix1 r)
      = (Finset.univ : Finset (Fin 64)).fold max (Ideal.ofBits .f32 0xFF800000#32) (L ∘ hs.lift (ix1 r)) :=
    Host.reduce_eq_fold_single (fun a b : EReal => max a b) L (constant (F := Ideal) ⟨0, ![]⟩ .f32 0xFF800000#32) hr hs hu (ix1 r)
  have e : hostMax L h0 hr hu (ix1 r) = max (Ideal.ofBits .f32 0xFF800000#32)
      (Host.reduce (FloatOps.maximumf (F := Ideal) (φ := .f32)) L (constant ⟨0, ![]⟩ .f32 0xFF800000#32) hr hu (ix1 r)) := rfl
  rw [e, hf, ofBits_neg_inf, max_eq_right bot_le]
  unfold rowMax
  exact congrArg (Finset.fold max (⊥ : EReal) · Finset.univ) (funext fun k => congrArg L (lift_row hs r k))

/-- The host's exponentials of a matrix minus a value per row, as its operations write it. -/
def hostExp {R : ℕ} (L : FVec Ideal (Mat R 64) .f32) (M : FVec Ideal (Row R) .f32)
    (h1 : (Row R).BroadcastsInDim (Mat R 1) (![0] : Fin 1 → Fin (Mat R 1).rank))
    (h2 : (Mat R 1).BroadcastsInDim (Mat R 64) (![0, 1] : Fin 2 → Fin (Mat R 64).rank)) : FVec Ideal (Mat R 64) .f32 :=
  Host.exp (subf L (broadcastInDim (Mat R 64) ![0, 1] h2 (broadcastInDim (Mat R 1) ![0] h1 M)))

/-- Its entry `(r, k)`. -/
theorem hostExp_apply {R : ℕ} (L : FVec Ideal (Mat R 64) .f32) (M : FVec Ideal (Row R) .f32) (h1 h2) (r : Fin R) (k : Fin 64) :
    hostExp L M h1 h2 (ix2 r k) = Ideal.exp (L (ix2 r k) - M (ix1 r)) := by
  rw [← Routing.bcRows h1 h2 M r k]
  rfl

/-- The host's rows divided each by its sum, as its operations write it. -/
def hostNorm {R : ℕ} (E : FVec Ideal (Mat R 64) .f32) (h1 : (Row R).BroadcastsInDim (Mat R 1) (![0] : Fin 1 → Fin (Mat R 1).rank))
    (h2 : (Mat R 1).BroadcastsInDim (Mat R 64) (![0, 1] : Fin 2 → Fin (Mat R 64).rank))
    (hr : (Mat R 64).ReducesTo [1] (Row R)) (hu : 0 < (⟨0, ![]⟩ : Shape).numel) : FVec Ideal (Mat R 64) .f32 :=
  Host.divf E (broadcastInDim (Mat R 64) ![0, 1] h2 (broadcastInDim (Mat R 1) ![0] h1
    (Host.reduceAdd E (constant ⟨0, ![]⟩ .f32 0x00000000#32) hr hu)))

/-- Its entry `(r, e)`. -/
theorem hostNorm_apply {R : ℕ} (E : FVec Ideal (Mat R 64) .f32) (h1 h2) (hr : (Mat R 64).ReducesTo [1] (Row R)) (hu)
    (hs : (Mat R 64).Reduces [1] (Row R)) (r : Fin R) (e : Fin 64) :
    hostNorm E h1 h2 hr hu (ix2 r e) = Ideal.div (E (ix2 r e)) (∑ k, E (ix2 r k)) := by
  unfold hostNorm
  rw [hostDivf_apply, Routing.bcRows, hostReduceAdd_apply, Ideal.hostReduceAdd_single hr hs]
  congr 1
  show Ideal.ofBits .f32 0x00000000#32 + _ = _
  rw [Ideal.ofBits_zero_f32, zero_add]
  exact Finset.sum_congr rfl fun k _ => congrArg _ (lift_row hs r k)

/-- The host's softmax along the rows of a matrix of 64 columns, as its operations write it. -/
def hostSoft {R : ℕ} (L : FVec Ideal (Mat R 64) .f32) (h0 : (⟨0, ![]⟩ : Shape).BroadcastsInDim (Row R) (![] : Fin 0 → Fin (Row R).rank))
    (h1 : (Row R).BroadcastsInDim (Mat R 1) (![0] : Fin 1 → Fin (Mat R 1).rank))
    (h2 : (Mat R 1).BroadcastsInDim (Mat R 64) (![0, 1] : Fin 2 → Fin (Mat R 64).rank))
    (hr : (Mat R 64).ReducesTo [1] (Row R)) (hu : 0 < (⟨0, ![]⟩ : Shape).numel) : FVec Ideal (Mat R 64) .f32 :=
  hostNorm (hostExp L (hostMax L h0 hr hu) h1 h2) h1 h2 hr hu

/-- The host's softmax at `(r, e)` is the row's softmax at `e`. -/
theorem hostSoft_apply {R : ℕ} (L : FVec Ideal (Mat R 64) .f32) (h0 h1 h2) (hr : (Mat R 64).ReducesTo [1] (Row R)) (hu)
    (hs : (Mat R 64).Reduces [1] (Row R)) (r : Fin R) (e : Fin 64) :
    hostSoft L h0 h1 h2 hr hu (ix2 r e) = prob (fun k => L (ix2 r k)) e := by
  have hE : ∀ k, hostExp L (hostMax L h0 hr hu) h1 h2 (ix2 r k) = expo (fun k => L (ix2 r k)) k := fun k => by
    rw [hostExp_apply, hostMax_apply L h0 hr hu hs]
    rfl
  unfold hostSoft prob
  rw [hostNorm_apply _ _ _ _ _ hs, hE]
  exact congrArg _ (Finset.sum_congr rfl fun k _ => hE k)

/-- The entry along row `r` at column `k`. -/
theorem along_row {R : ℕ} (r : Fin R) (n k : Fin 64) (h : 1 < (Mat R 64).rank) :
    Shape.Idx.along (s := Mat R 64) (ix2 r n) ⟨1, h⟩ k = ix2 r k := by
  funext c
  match c with
  | ⟨0, _⟩ => rfl
  | ⟨1, _⟩ => rfl

/-- The host's sort of a row puts at `n` the row's place `n`. -/
theorem sorted_row {R : ℕ} (x : FVec Ideal (Mat R 64) .f32) (r : Fin R) (n : Fin 64) (h : 1 < (Mat R 64).rank) :
    sortedFrom (n := 64) (fun k k' => FloatOps.cmpfTotal (F := Ideal) (φ := .f32) .gt (x (Shape.Idx.along (s := Mat R 64) (ix2 r n) ⟨1, h⟩ k))
      (x (Shape.Idx.along (s := Mat R 64) (ix2 r n) ⟨1, h⟩ k')) == 1#1) n = place (fun k => x (ix2 r k)) n := by
  unfold place
  refine congrArg (fun b => sortedFrom (n := 64) b n) (funext fun k => funext fun k' => ?_)
  unfold gt
  exact congrArg₂ (fun a b => FloatOps.cmpfTotal (F := Ideal) (φ := .f32) .gt a b == 1#1) (congrArg x (along_row r n k h)) (congrArg x (along_row r n k' h))

/-- The host's top-k along rows: value `n` of row `r` is the row's entry at place `n`. -/
theorem topK_val {R K : ℕ} (x : FVec Ideal (Mat R 64) .f32) (h : (Mat R 64).Slices (fun _ => 0) (Mat R K)) (r : Fin R) (n : Fin K)
    (hn : n.val < 64) :
    (Host.topK (Mat R K) 1 (FloatOps.cmpfTotal (F := Ideal) (φ := .f32) .gt) x h).1 (ix2 r n)
      = x (ix2 r (place (fun k => x (ix2 r k)) ⟨n.val, hn⟩)) := by
  unfold Host.topK
  dsimp only
  rw [extractStridedSlice_apply _ _ h (ix2 r n) (ix2 r (⟨n.val, hn⟩ : Fin 64)) (fun c => by
    match c with
    | ⟨0, _⟩ => exact (Nat.zero_add _).symm
    | ⟨1, _⟩ => exact (Nat.zero_add _).symm)]
  unfold Host.sort2
  rw [dif_pos (show 1 < (Mat R 64).rank from Nat.one_lt_two)]
  exact (congrArg x (along_row r ⟨n.val, hn⟩ _ _)).trans (congrArg (fun k => x (ix2 r k)) (sorted_row x r ⟨n.val, hn⟩ Nat.one_lt_two))

/-- The host's top-k along rows: index `n` of row `r` is place `n`, as a word. -/
theorem topK_idx {R K : ℕ} (x : FVec Ideal (Mat R 64) .f32) (h : (Mat R 64).Slices (fun _ => 0) (Mat R K)) (r : Fin R) (n : Fin K)
    (hn : n.val < 64) :
    (Host.topK (Mat R K) 1 (FloatOps.cmpfTotal (F := Ideal) (φ := .f32) .gt) x h).2 (ix2 r n)
      = BitVec.ofNat 32 (place (fun k => x (ix2 r k)) ⟨n.val, hn⟩).val := by
  unfold Host.topK
  dsimp only
  rw [extractStridedSlice_apply _ _ h (ix2 r n) (ix2 r (⟨n.val, hn⟩ : Fin 64)) (fun c => by
    match c with
    | ⟨0, _⟩ => exact (Nat.zero_add _).symm
    | ⟨1, _⟩ => exact (Nat.zero_add _).symm)]
  unfold Host.sort2
  rw [dif_pos (show 1 < (Mat R 64).rank from Nat.one_lt_two)]
  exact (congrArg (fun i : (Mat R 64).Idx => BitVec.ofNat 32 (i 1).val) (along_row r ⟨n.val, hn⟩ _ _)).trans
    (congrArg (fun k : Fin 64 => BitVec.ofNat 32 k.val) (sorted_row x r ⟨n.val, hn⟩ Nat.one_lt_two))

/-- A left fold of addition, from a natural, over naturals is that natural plus their sum. -/
theorem foldl_add_nat {ι : Type} (l : List ι) (g : ι → EReal) (f : ι → ℕ) (hg : ∀ a ∈ l, g a = ((f a : ℕ) : EReal)) (z : ℕ) :
    l.foldl (fun r a => r + g a) ((z : ℕ) : EReal) = ((z + (l.map f).sum : ℕ) : EReal) := by
  induction l generalizing z with
  | nil => simp
  | cons a l ih =>
    rw [List.foldl_cons, hg a List.mem_cons_self, ← Nat.cast_add, ih (fun b hb => hg b (List.mem_cons_of_mem _ hb)), List.map_cons,
      List.sum_cons, Nat.add_assoc]

/-- An `[N, 1]` column has as many positions as entries. -/
theorem numel_col (N : ℕ) : (Mat N 1).numel = N := by
  show ∏ a : Fin 2, (![N, 1] : Fin 2 → ℕ) a = N
  rw [Fin.prod_univ_two]
  exact Nat.mul_one N

/-- Position `n` of an `[N, 1]` column is its entry `(n, 0)`. -/
theorem symm_col {N : ℕ} (n : Fin (Mat N 1).numel) : (Mat N 1).rowMajor.symm n = ix2 (n.cast (numel_col N)) (0 : Fin 1) :=
  ((Mat N 1).rowMajor.symm_apply_eq).2 (Fin.ext (by
    rw [Shape.rowMajor_val_two]
    show n.val = n.val * 1 + 0
    omega))

/-- The host's running sum down the columns of a matrix of naturals: entry `(j, c)` is the sum of the column's
    first `j + 1` entries. -/
theorem cumsum_col {N M C : ℕ} (hN : M + 1 = N) (x : FVec Ideal (Mat N C) .f32) (c : Fin C) (f : ℕ → ℕ)
    (hx : ∀ i : Fin N, x (ix2 i c) = ((f i.val : ℕ) : EReal)) (init : FVec Ideal (⟨0, ![]⟩ : Shape) .f32) (hinit : init ix0 = 0)
    (h : (Mat N C).ReduceWindows (![N, 1] : Fin 2 → ℕ) ![1, 1] ![M, 0] ![0, 0] (Mat N C)) (hu : 0 < (⟨0, ![]⟩ : Shape).numel) (j : Fin N) :
    Host.reduceWindowAdd ![N, 1] ![1, 1] ![M, 0] ![0, 0] x init h hu (ix2 j c) = ((((List.range (j.val + 1)).map f).sum : ℕ) : EReal) := by
  subst hN
  have hv : init (Shape.Idx.first hu) = ((0 : ℕ) : EReal) := (congrArg init (eq_ix0 _)).trans (hinit.trans Nat.cast_zero.symm)
  have hj := j.isLt
  show Host.reduceWindow (fun a b : EReal => a + b) ![M + 1, 1] ![1, 1] ![M, 0] ![0, 0] x init h hu (ix2 j c) = _
  unfold Host.reduceWindow
  dsimp only
  rw [hv]
  refine (foldl_add_nat _ _ (fun n => if M ≤ j.val + n.val then f (j.val + n.val - M) else 0) (fun n _ => ?_) 0).trans ?_
  · have hw : ((Mat (M + 1) 1).rowMajor.symm n 0).val = n.val := by rw [symm_col]; rfl
    have hw0 : ((Mat (M + 1) 1).rowMajor.symm n 1).val = 0 := by rw [symm_col]; rfl
    have hn : n.val < M + 1 := (n.cast (numel_col _)).isLt
    split
    · next hin =>
      have h1 := hin 0
      change M ≤ j.val * 1 + ((Mat (M + 1) 1).rowMajor.symm n 0).val
        ∧ j.val * 1 + ((Mat (M + 1) 1).rowMajor.symm n 0).val - M < M + 1 at h1
      rw [hw] at h1
      rw [if_pos (by omega)]
      refine (congrArg x (funext fun a => Fin.ext ?_)).trans (hx ⟨j.val + n.val - M, by omega⟩)
      match a with
      | ⟨0, _⟩ =>
        show j.val * 1 + ((Mat (M + 1) 1).rowMajor.symm n 0).val - M = j.val + n.val - M
        rw [hw, Nat.mul_one]
      | ⟨1, _⟩ =>
        show c.val * 1 + ((Mat (M + 1) 1).rowMajor.symm n 1).val - 0 = c.val
        rw [hw0]
        omega
    · next hin =>
      rw [if_neg fun hle => hin fun a => by
        match a with
        | ⟨0, _⟩ =>
          show M ≤ j.val * 1 + ((Mat (M + 1) 1).rowMajor.symm n 0).val
            ∧ j.val * 1 + ((Mat (M + 1) 1).rowMajor.symm n 0).val - M < M + 1
          rw [hw]
          omega
        | ⟨1, _⟩ =>
          show 0 ≤ c.val * 1 + ((Mat (M + 1) 1).rowMajor.symm n 1).val ∧ c.val * 1 + ((Mat (M + 1) 1).rowMajor.symm n 1).val - 0 < C
          rw [hw0]
          have := c.isLt
          omega]
  · rw [Nat.zero_add, Routing.map_finRange_val _ (fun w => if M ≤ j.val + w then f (j.val + w - M) else 0)]
    exact congrArg (Nat.cast) ((congrArg (fun K => ((List.range K).map fun w => if M ≤ j.val + w then f (j.val + w - M) else 0).sum)
      (numel_col (M + 1))).trans (Routing.sum_window f M j.val (by omega)))

end Cert.Proof

end
-- ==== Proof.Outs.lean ====
/-
  What one run of the kernel's body leaves in its three output blocks and in its carried counts, as functions of
  the blocks it reads: the eight chunks' running counts stated once, by recursion on the chunk.
-/
module

public import proofs.«01_k».proof.Proof.Reads
public import proofs.«01_k».proof.Proof.Gen.KernelIdeal.Frame

@[expose] public section

set_option maxRecDepth 16384

noncomputable section

namespace Cert.Proof

open Cert.KernelIdeal Cert.KernelIdeal.Gen Cert.KernelIdeal.Facts
open Idealize.ShloMosaic Idealize.ShloMosaic.TcCoe Idealize.ShloMosaic.Tactic

variable {F : FTy → Type} [FloatOps F]

/-- Chunk `n` of a 1024-column block: its columns from `128 n` on. -/
theorem chunkFits {n : ℕ} (hn : n < 8) : S64x1024.Slices ![0, 128 * n] S64x128 :=
  ⟨rfl, fun a => match a with
    | ⟨0, _⟩ => (by decide : 0 + 64 ≤ 64)
    | ⟨1, _⟩ => by show 128 * n + 128 ≤ 1024; omega⟩

/-- The columns of chunk `n`. -/
def chunk {α : Type} (v : S64x1024.Idx → α) (n : ℕ) (hn : n < 8) : S64x128.Idx → α :=
  extractStridedSlice S64x128 ![0, 128 * n] v (chunkFits hn)

/-- A chunk's last column. -/
def lastCol {α : Type} (v : S64x128.Idx → α) : S64x1.Idx → α :=
  extractStridedSlice S64x1 ![0, 127] v slices_S64x128_o0_127_S64x1

/-- A chunk's running counts: its columns times the triangle, plus the count before the chunk. -/
def chunkInc (oh : FVec F S64x1024 .bf16) (tri : FVec F S128x128 .bf16) (p : FVec F S64x1 .f32) (n : ℕ) (hn : n < 8) : FVec F S64x128 .f32 :=
  addf (matmul dot_S64x128_S128x128_S64x128_1_0_0_1_n_n none (chunk oh n hn) tri (constant S64x128 .f32 0x00000000#32))
    (broadcastTo S64x128 p broadcasts_S64x1_S64x128)

/-- The running counts of chunk `n`: the count before it is zero at the first, the chunk before's last column after. -/
def incs (oh : FVec F S64x1024 .bf16) (tri : FVec F S128x128 .bf16) : (n : ℕ) → n < 8 → FVec F S64x128 .f32
  | 0, hn => chunkInc oh tri (broadcast S64x1 (Scalar.ofBits .f32 0x00000000#32)) 0 hn
  | n + 1, hn => chunkInc oh tri (lastCol (incs oh tri n (Nat.lt_of_succ_lt hn))) (n + 1) hn

/-- Chunk `n` of the one-hot block, kept where the running count is within the room left. -/
def kept (oh : FVec F S64x1024 .f32) (oh16 : FVec F S64x1024 .bf16) (tri : FVec F S128x128 .bf16) (room : FVec F S64x1 .f32)
    (n : ℕ) (hn : n < 8) : FVec F S64x128 .f32 :=
  select (cmpf .ole (incs oh16 tri n hn) (broadcastTo S64x128 room broadcasts_S64x1_S64x128)) (chunk oh n hn)
    (broadcast S64x128 (Scalar.ofBits .f32 0x00000000#32))

/-- Eight chunks side by side. -/
def join {α : Type} (f : (n : ℕ) → n < 8 → S64x128.Idx → α) : S64x1024.Idx → α :=
  concatenate S64x1024 1 [⟨S64x128, f 0 (by decide)⟩, ⟨S64x128, f 1 (by decide)⟩, ⟨S64x128, f 2 (by decide)⟩, ⟨S64x128, f 3 (by decide)⟩,
    ⟨S64x128, f 4 (by decide)⟩, ⟨S64x128, f 5 (by decide)⟩, ⟨S64x128, f 6 (by decide)⟩, ⟨S64x128, f 7 (by decide)⟩]
    concatenates_S64x128_S64x128_S64x128_S64x128_S64x128_S64x128_S64x128_S64x128_S64x1024_d1

/-- The block's one-hot matrix: one at a token's two experts. -/
def ohB (x0 : Vec F S1024x768 .f32) (x1 : Vec F S768x64 .f32) (x2 : Vec F S1x64 .f32) : FVec F S64x1024 .f32 :=
  k0_pay19 (k0_pay15 x0 x1 x2) (k0_pay16 x0 x1 x2) k0_pay17 k0_pay18

/-- The same, in the format the matrix unit takes. -/
def oh16B (x0 : Vec F S1024x768 .f32) (x1 : Vec F S768x64 .f32) (x2 : Vec F S1x64 .f32) : FVec F S64x1024 .bf16 :=
  k0_pay20 (k0_pay15 x0 x1 x2) (k0_pay16 x0 x1 x2) k0_pay17 k0_pay18

/-- The probability each token gives: its first expert's at that expert, its second's elsewhere. -/
def probB (x0 : Vec F S1024x768 .f32) (x1 : Vec F S768x64 .f32) (x2 : Vec F S1x64 .f32) : FVec F S64x1024 .f32 :=
  k0_pay22 (k0_pay9 x0 x1 x2) (k0_pay11 x0 x1 x2) (k0_pay13 x0 x1 x2)

/-- The block of routed entries. -/
def routedB (x0 : Vec F S1024x768 .f32) (x1 : Vec F S768x64 .f32) (x2 : Vec F S1x64 .f32) (x3 : Vec F S128x128 .bf16) (xs : Vec F S64x1 .f32) :
    FVec F S64x1024 .f32 :=
  join fun n hn => kept (ohB x0 x1 x2) (oh16B x0 x1 x2) (k0_pay21 x3) (k0_pay23 xs) n hn

/-- The block of routed probabilities. -/
def rprobB (x0 : Vec F S1024x768 .f32) (x1 : Vec F S768x64 .f32) (x2 : Vec F S1x64 .f32) (x3 : Vec F S128x128 .bf16) (xs : Vec F S64x1 .f32) :
    FVec F S64x1024 .f32 :=
  join fun n hn => mulf (kept (ohB x0 x1 x2) (oh16B x0 x1 x2) (k0_pay21 x3) (k0_pay23 xs) n hn) (chunk (probB x0 x1 x2) n hn)

/-- The block of expert indices. -/
def idxB (x0 : Vec F S1024x768 .f32) (x1 : Vec F S768x64 .f32) (x2 : Vec F S1x64 .f32) : IVec S2x1024 32 :=
  k0_pay6 (k0_pay10 x0 x1 x2) (k0_pay14 x0 x1 x2)

/-- The counts the block leaves: those it found plus its own. -/
def carryB (x0 : Vec F S1024x768 .f32) (x1 : Vec F S768x64 .f32) (x2 : Vec F S1x64 .f32) (x3 : Vec F S128x128 .bf16) (xs : Vec F S64x1 .f32) :
    FVec F S64x1 .f32 :=
  shapeCast S64x1 (addf xs (lastCol (incs (oh16B x0 x1 x2) (k0_pay21 x3) 7 (by decide)))) shapeCasts_S64x1_S64x1

theorem hz2 : (![0, 0] : Fin 2 → ℕ) = fun _ => 0 := funext fun a => by fin_cases a <;> rfl

section Read

variable (c : Dev nD) (i : grid0.Coords) (arg1 : Memref sig .tc .vmem S1024x768 .f32) (harg1 : arg1.IsWhole) (arg2 : Memref sig .tc .vmem S768x64 .f32) (harg2 : arg2.IsWhole) (arg3 : Memref sig .tc .vmem S1x64 .f32) (harg3 : arg3.IsWhole) (arg4 : Memref sig .tc .vmem S128x128 .bf16) (harg4 : arg4.IsWhole) (arg5 : Memref sig .tc .vmem S64x1024 .f32) (harg5 : arg5.IsWhole) (arg6 : Memref sig .tc .vmem S64x1024 .f32) (harg6 : arg6.IsWhole) (arg7 : Memref sig .tc .vmem S2x1024 .i32) (harg7 : arg7.IsWhole) (arg8 : Memref sig .tc .vmem S64x1 .f32) (harg8 : arg8.IsWhole)
  (x0 : Vec F S1024x768 .f32) (x1 : Vec F S768x64 .f32) (x2 : Vec F S1x64 .f32) (x3 : Vec F S128x128 .bf16)

/-- A later point leaves the routed block over the counts it found. -/
theorem out4_B (hc : ¬cond0_0 i) (xs : Vec F S64x1 .f32) :
    out0_B_4 c i arg1 harg1 arg2 harg2 arg3 harg3 arg4 harg4 arg5 harg5 arg6 harg6 arg7 harg7 arg8 harg8 hc x0 x1 x2 x3 xs = routedB x0 x1 x2 x3 xs := by
  unfold out0_B_4
  rw [View.read_writes_eq_canon _ _ _ (cover0_B_4 c i arg1 harg1 arg2 harg2 arg3 harg3 arg4 harg4 arg5 harg5 arg6 harg6 arg7 harg7 arg8 harg8 hc x0 x1 x2 x3 xs)]
  unfold kernelRun0_B
  dsimp only
  sl_unfold_words
  rw [View.canon_unit_zero hz2]
  simp only [View.readAt_eq_ld, harg1.read_unread, harg2.read_unread, harg3.read_unread, harg4.read_unread, harg8.read_unread,
    View.ld_unit_zero (S := S1024x768) hz2, View.ld_unit_zero (S := S768x64) hz2, View.ld_unit_zero (S := S1x64) hz2,
    View.ld_unit_zero (S := S128x128) hz2, View.ld_unit_zero (S := S64x1) hz2]
  rfl

/-- A later point leaves the block of routed probabilities over the counts it found. -/
theorem out5_B (hc : ¬cond0_0 i) (xs : Vec F S64x1 .f32) :
    out0_B_5 c i arg1 harg1 arg2 harg2 arg3 harg3 arg4 harg4 arg5 harg5 arg6 harg6 arg7 harg7 arg8 harg8 hc x0 x1 x2 x3 xs = rprobB x0 x1 x2 x3 xs := by
  unfold out0_B_5
  rw [View.read_writes_eq_canon _ _ _ (cover0_B_5 c i arg1 harg1 arg2 harg2 arg3 harg3 arg4 harg4 arg5 harg5 arg6 harg6 arg7 harg7 arg8 harg8 hc x0 x1 x2 x3 xs)]
  unfold kernelRun0_B
  dsimp only
  sl_unfold_words
  rw [View.canon_unit_zero hz2]
  simp only [View.readAt_eq_ld, harg1.read_unread, harg2.read_unread, harg3.read_unread, harg4.read_unread, harg8.read_unread,
    View.ld_unit_zero (S := S1024x768) hz2, View.ld_unit_zero (S := S768x64) hz2, View.ld_unit_zero (S := S1x64) hz2,
    View.ld_unit_zero (S := S128x128) hz2, View.ld_unit_zero (S := S64x1) hz2]
  rfl

/-- A later point leaves the block of expert indices. -/
theorem out6_B (hc : ¬cond0_0 i) (xs : Vec F S64x1 .f32) :
    out0_B_6 c i arg1 harg1 arg2 harg2 arg3 harg3 arg4 harg4 arg5 harg5 arg6 harg6 arg7 harg7 arg8 harg8 hc x0 x1 x2 x3 xs = idxB x0 x1 x2 := by
  unfold out0_B_6
  rw [View.read_writes_eq_canon _ _ _ (cover0_B_6 c i arg1 harg1 arg2 harg2 arg3 harg3 arg4 harg4 arg5 harg5 arg6 harg6 arg7 harg7 arg8 harg8 hc x0 x1 x2 x3 xs)]
  unfold kernelRun0_B
  dsimp only
  sl_unfold_words
  rw [View.canon_unit_zero hz2]
  simp only [View.readAt_eq_ld, harg1.read_unread, harg2.read_unread, harg3.read_unread, harg4.read_unread, harg8.read_unread,
    View.ld_unit_zero (S := S1024x768) hz2, View.ld_unit_zero (S := S768x64) hz2, View.ld_unit_zero (S := S1x64) hz2,
    View.ld_unit_zero (S := S128x128) hz2, View.ld_unit_zero (S := S64x1) hz2]
  rfl

/-- A later point leaves the counts over the counts it found. -/
theorem sout_B (hc : ¬cond0_0 i) (xs : Vec F S64x1 .f32) :
    sout0_B_0 c i arg1 harg1 arg2 harg2 arg3 harg3 arg4 harg4 arg5 harg5 arg6 harg6 arg7 harg7 arg8 harg8 hc x0 x1 x2 x3 xs = carryB x0 x1 x2 x3 xs := by
  unfold sout0_B_0
  rw [View.read_writes_eq_canon _ _ _ (scover0_B_0 c i arg1 harg1 arg2 harg2 arg3 harg3 arg4 harg4 arg5 harg5 arg6 harg6 arg7 harg7 arg8 harg8 hc x0 x1 x2 x3 xs)]
  unfold kernelRun0_B
  dsimp only
  sl_unfold_words
  rw [View.canon_unit_zero hz2]
  simp only [View.readAt_eq_ld, harg1.read_unread, harg2.read_unread, harg3.read_unread, harg4.read_unread, harg8.read_unread,
    View.ld_unit_zero (S := S1024x768) hz2, View.ld_unit_zero (S := S768x64) hz2, View.ld_unit_zero (S := S1x64) hz2,
    View.ld_unit_zero (S := S128x128) hz2, View.ld_unit_zero (S := S64x1) hz2]
  rfl

/-- The first point leaves the routed block over no counts. -/
theorem out4_A (hc : cond0_0 i) :
    out0_A_4 c i arg1 harg1 arg2 harg2 arg3 harg3 arg4 harg4 arg5 harg5 arg6 harg6 arg7 harg7 arg8 harg8 hc x0 x1 x2 x3 = routedB x0 x1 x2 x3 k0_pay7 := by
  unfold out0_A_4
  rw [View.read_writes_eq_canon _ _ _ (cover0_A_4 c i arg1 harg1 arg2 harg2 arg3 harg3 arg4 harg4 arg5 harg5 arg6 harg6 arg7 harg7 arg8 harg8 hc x0 x1 x2 x3)]
  unfold kernelRun0_A
  dsimp only
  sl_unfold_words
  rw [View.canon_unit_zero hz2]
  rw [View.readCov_unit_zero (S := S64x1) _ hz2]
  simp only [View.readAt_eq_ld, harg1.read_unread, harg2.read_unread, harg3.read_unread, harg4.read_unread,
    View.ld_unit_zero (S := S1024x768) hz2, View.ld_unit_zero (S := S768x64) hz2, View.ld_unit_zero (S := S1x64) hz2,
    View.ld_unit_zero (S := S128x128) hz2]
  rfl

/-- The first point leaves the block of routed probabilities over no counts. -/
theorem out5_A (hc : cond0_0 i) :
    out0_A_5 c i arg1 harg1 arg2 harg2 arg3 harg3 arg4 harg4 arg5 harg5 arg6 harg6 arg7 harg7 arg8 harg8 hc x0 x1 x2 x3 = rprobB x0 x1 x2 x3 k0_pay7 := by
  unfold out0_A_5
  rw [View.read_writes_eq_canon _ _ _ (cover0_A_5 c i arg1 harg1 arg2 harg2 arg3 harg3 arg4 harg4 arg5 harg5 arg6 harg6 arg7 harg7 arg8 harg8 hc x0 x1 x2 x3)]
  unfold kernelRun0_A
  dsimp only
  sl_unfold_words
  rw [View.canon_unit_zero hz2]
  rw [View.readCov_unit_zero (S := S64x1) _ hz2]
  simp only [View.readAt_eq_ld, harg1.read_unread, harg2.read_unread, harg3.read_unread, harg4.read_unread,
    View.ld_unit_zero (S := S1024x768) hz2, View.ld_unit_zero (S := S768x64) hz2, View.ld_unit_zero (S := S1x64) hz2,
    View.ld_unit_zero (S := S128x128) hz2]
  rfl

/-- The first point leaves the block of expert indices. -/
theorem out6_A (hc : cond0_0 i) :
    out0_A_6 c i arg1 harg1 arg2 harg2 arg3 harg3 arg4 harg4 arg5 harg5 arg6 harg6 arg7 harg7 arg8 harg8 hc x0 x1 x2 x3 = idxB x0 x1 x2 := by
  unfold out0_A_6
  rw [View.read_writes_eq_canon _ _ _ (cover0_A_6 c i arg1 harg1 arg2 harg2 arg3 harg3 arg4 harg4 arg5 harg5 arg6 harg6 arg7 harg7 arg8 harg8 hc x0 x1 x2 x3)]
  unfold kernelRun0_A
  dsimp only
  sl_unfold_words
  rw [View.canon_unit_zero hz2]
  simp only [View.readAt_eq_ld, harg1.read_unread, harg2.read_unread, harg3.read_unread, harg4.read_unread,
    View.ld_unit_zero (S := S1024x768) hz2, View.ld_unit_zero (S := S768x64) hz2, View.ld_unit_zero (S := S1x64) hz2,
    View.ld_unit_zero (S := S128x128) hz2]
  rfl

/-- The first point leaves the counts over no counts. -/
theorem sout_A (hc : cond0_0 i) :
    sout0_A_0 c i arg1 harg1 arg2 harg2 arg3 harg3 arg4 harg4 arg5 harg5 arg6 harg6 arg7 harg7 arg8 harg8 hc x0 x1 x2 x3 = carryB x0 x1 x2 x3 k0_pay7 := by
  unfold sout0_A_0
  rw [View.read_writes_eq_canon _ _ _ (scover0_A_0 c i arg1 harg1 arg2 harg2 arg3 harg3 arg4 harg4 arg5 harg5 arg6 harg6 arg7 harg7 arg8 harg8 hc x0 x1 x2 x3)]
  unfold kernelRun0_A
  dsimp only
  sl_unfold_words
  rw [View.canon_cons_unit_zero (S := S64x1) hz2, View.readCov_unit_zero (S := S64x1) _ hz2]
  simp only [View.readAt_eq_ld, harg1.read_unread, harg2.read_unread, harg3.read_unread, harg4.read_unread,
    View.ld_unit_zero (S := S1024x768) hz2, View.ld_unit_zero (S := S768x64) hz2, View.ld_unit_zero (S := S1x64) hz2,
    View.ld_unit_zero (S := S128x128) hz2]
  rfl

end Read

end Cert.Proof

end
-- ==== Proof.Block.lean ====
/-
  The kernel's block values at an entry, over the extended reals: each token's softmax terms, its two experts, the
  one-hot matrix, the running counts of a chunk (once, for every chunk), the entries kept and the counts left behind.
-/
module

public import proofs.«01_k».proof.Proof.Outs
public import Idealize.ShloMosaic.Lib.MatmulPlain
public import Idealize.ShloMosaic.Lib.IdealHost
public import Idealize.ShloMosaic.Lib.WordCmp

@[expose] public section

set_option maxRecDepth 16384

noncomputable section

namespace Cert.Proof

open Cert.KernelIdeal Cert.KernelIdeal.Gen Cert.KernelIdeal.Facts
open Idealize.ShloMosaic Idealize.ShloMosaic.ValueIdx
open scoped BigOperators

/-! ## Words and counts -/

/-- A choice on a comparison's bit is the choice on the comparison. -/
theorem select_ofBool {α : Type} (p : Prop) [Decidable p] (x y : α) :
    Scalar.select (BitVec.ofBool (decide p)) x y = if p then x else y := by
  unfold Scalar.select
  by_cases h : p <;> simp [h]

/-- The f32 word of 640. -/
theorem ofBits_640 : Ideal.ofBits .f32 0x44200000#32 = ((640 : ℝ) : EReal) := by
  simp [Ideal.ofBits, Ideal.ieee, -EReal.coe_mul]; norm_num

/-- The f32 word of minus one. -/
theorem ofBits_neg_one : Ideal.ofBits .f32 0xBF800000#32 = -1 := by
  simp [Ideal.ofBits, Ideal.ieee, -EReal.coe_mul]; norm_num

/-- A count is within the room left exactly when it and the count before it are within the capacity. -/
theorem within_iff (n c : ℕ) : ((n : ℕ) : EReal) ≤ ((640 : ℝ) : EReal) - ((c : ℕ) : EReal) ↔ c + n ≤ 640 := by
  have h : ((640 : ℝ) : EReal) - ((c : ℕ) : EReal) = ((640 - (c : ℝ) : ℝ) : EReal) := by
    rw [EReal.coe_sub]; rfl
  rw [h, show ((n : ℕ) : EReal) = ((n : ℝ) : EReal) from rfl, EReal.coe_le_coe_iff]
  constructor
  · intro q
    have : ((c + n : ℕ) : ℝ) ≤ (640 : ℕ) := by push_cast; linarith
    exact_mod_cast this
  · intro q
    have : ((c + n : ℕ) : ℝ) ≤ (640 : ℕ) := by exact_mod_cast q
    push_cast at this; linarith

/-- Two expert numbers give one word exactly when they are equal. -/
theorem word_eq_iff (e a : Fin 64) : BitVec.ofNat 32 e.val = BitVec.ofNat 32 a.val ↔ e = a := by
  rw [WordCmp.ofNat_eq_ofNat_iff (by omega) (by omega), Fin.ext_iff]

/-! ## A token's row -/

section Token

variable (x0 : Vec Ideal S1024x768 .f32) (x1 : Vec Ideal S768x64 .f32) (x2 : Vec Ideal S1x64 .f32)

/-- Token `q`'s logits in a block. -/
def blockRow (q : Fin 1024) (e : Fin 64) : EReal := (∑ k : Fin 768, x0 (ix2 q k) * x1 (ix2 k e)) + x2 (ix2 (0 : Fin 1) e)

/-- The block's logits, transposed. -/
def logitsT : FVec Ideal S64x1024 .f32 :=
  transpose S64x1024 [1, 0] (addf (matmul (φ₁ := .f32) (φ₂ := .f32) dot_S1024x768_S768x64_S1024x64_1_0_0_1_n_n none x0 x1 (constant S1024x64 .f32 0x00000000#32))
    (broadcastTo S1024x64 (shapeCast S1x64 x2 shapeCasts_S1x64_S1x64) broadcasts_S1x64_S1024x64)) transposes_S1024x64_p1_0_S64x1024

/-- Their entries. -/
theorem logitsT_apply (e : Fin 64) (q : Fin 1024) : logitsT x0 x1 x2 (ix2 e q) = blockRow x0 x1 x2 q e := by
  have hd : dot_S1024x768_S768x64_S1024x64_1_0_0_1_n_n = DotDims.plain 1024 768 64 := rfl
  refine (transpose_ix2_apply _ _ e q).trans ?_
  have hb : broadcastTo S1024x64 (shapeCast S1x64 x2 shapeCasts_S1x64_S1x64) broadcasts_S1x64_S1024x64 (ix2 q e) = x2 (ix2 (0 : Fin 1) e) := by
    rw [shapeCast_self]; exact broadcastTo_1b_ab_apply _ _ q e
  have hm : matmul (F := Ideal) (φ₁ := .f32) (φ₂ := .f32) dot_S1024x768_S768x64_S1024x64_1_0_0_1_n_n none x0 x1 (constant S1024x64 .f32 0x00000000#32) (ix2 q e)
      = ∑ k : Fin 768, x0 (ix2 q k) * x1 (ix2 k e) := by
    rw [hd]
    refine (Ideal.matmul_plain_apply none x0 x1 _ q e).trans ?_
    show Ideal.ofBits .f32 0x00000000#32 + _ = _
    rw [Ideal.ofBits_zero_f32, zero_add]
  exact congrArg₂ (fun a b : EReal => a + b) hm hb

/-- The exponentials are the row's. -/
theorem pay8_apply (e : Fin 64) (q : Fin 1024) : k0_pay8 x0 x1 x2 (ix2 e q) = expo (blockRow x0 x1 x2 q) e := by
  have hm : broadcastTo S64x1024 (shapeCast S1x1024 (multiReduction .maximumf [0] S1024 (logitsT x0 x1 x2) 0xFF800000#32
      reduces_S64x1024_S1024 (.inl rfl) rfl) shapeCasts_S1024_S1x1024) broadcasts_S1x1024_S64x1024 (ix2 e q) = rowMax (blockRow x0 x1 x2 q) := by
    refine (broadcastTo_1b_ab_apply _ _ e q).trans ((shapeCast_a_1a_apply _ _ 0 q).trans ((colMax_apply _ _ _ _ q).trans ?_))
    exact congrArg rowMax (funext fun k => logitsT_apply x0 x1 x2 k q)
  have h : k0_pay8 x0 x1 x2 (ix2 e q) = Ideal.exp (logitsT x0 x1 x2 (ix2 e q) - broadcastTo S64x1024 (shapeCast S1x1024
      (multiReduction .maximumf [0] S1024 (logitsT x0 x1 x2) 0xFF800000#32 reduces_S64x1024_S1024 (.inl rfl) rfl)
      shapeCasts_S1024_S1x1024) broadcasts_S1x1024_S64x1024 (ix2 e q)) := rfl
  rw [h, hm, logitsT_apply]
  rfl

/-- One over the row's sum. -/
theorem pay9_apply (q : Fin 1024) :
    k0_pay9 x0 x1 x2 (ix2 (0 : Fin 1) q) = Ideal.div 1 (∑ k, expo (blockRow x0 x1 x2 q) k) := by
  have hs : shapeCast S1x1024 (multiReduction .add [0] S1024 (k0_pay8 x0 x1 x2) 0x00000000#32 reduces_S64x1024_S1024 (.inl rfl) rfl)
      shapeCasts_S1024_S1x1024 (ix2 (0 : Fin 1) q) = ∑ k, expo (blockRow x0 x1 x2 q) k :=
    (shapeCast_a_1a_apply _ _ 0 q).trans ((colSum_apply _ _ _ _ q).trans (Finset.sum_congr rfl fun k _ => pay8_apply x0 x1 x2 k q))
  have h : k0_pay9 x0 x1 x2 (ix2 (0 : Fin 1) q) = Ideal.div (Ideal.ofBits .f32 0x3F800000#32)
      (shapeCast S1x1024 (multiReduction .add [0] S1024 (k0_pay8 x0 x1 x2) 0x00000000#32 reduces_S64x1024_S1024 (.inl rfl) rfl)
        shapeCasts_S1024_S1x1024 (ix2 (0 : Fin 1) q)) := rfl
  rw [h, hs, Ideal.ofBits_one_f32]

/-- Comparing the expert numbers with a row of words. -/
theorem isExpert (v : IVec S1x1024 32) (e : Fin 64) (q : Fin 1024) (a : Fin 64) (hv : v (ix2 (0 : Fin 1) q) = BitVec.ofNat 32 a.val) :
    cmpi .eq (broadcastTo S64x1024 (iota .tc S64x1 32 [0] iota_S64x1_d0_w32) broadcasts_S64x1_S64x1024)
      (broadcastTo S64x1024 v broadcasts_S1x1024_S64x1024) (ix2 e q) = BitVec.ofBool (decide (e = a)) := by
  have h1 : broadcastTo S64x1024 (iota .tc S64x1 32 [0] iota_S64x1_d0_w32) broadcasts_S64x1_S64x1024 (ix2 e q) = BitVec.ofNat 32 e.val := by
    refine (broadcastTo_apply _ _ (ix2 e q) (ix2 e (0 : Fin 1)) fun ax => ?_).trans ?_
    · match ax with
      | ⟨0, _⟩ => rfl
      | ⟨1, _⟩ => rfl
    · show BitVec.ofNat 32 (0 * 64 + e.val) = _
      rw [Nat.zero_mul, Nat.zero_add]
  have h2 : broadcastTo S64x1024 v broadcasts_S1x1024_S64x1024 (ix2 e q) = BitVec.ofNat 32 a.val :=
    (broadcastTo_1b_ab_apply _ _ e q).trans hv
  rw [show ∀ (x y : IVec S64x1024 32) j, cmpi .eq x y j = IntOp.cmpi .eq (x j) (y j) from fun _ _ _ => rfl, h1, h2, WordCmp.cmpi_eq_eq]
  exact congrArg BitVec.ofBool (decide_eq_decide.mpr (word_eq_iff e a))

variable (q : Fin 1024) (a b : Fin 64) (h : TopTwo (prob (blockRow x0 x1 x2 q)) a b)

include h

/-- The first expert. -/
theorem pay10_apply : k0_pay10 x0 x1 x2 (ix2 (0 : Fin 1) q) = BitVec.ofNat 32 a.val :=
  (shapeCast_a_1a_apply _ _ 0 q).trans (argMax_apply _ _ q a fun k hk => by
    rw [pay8_apply, pay8_apply]; exact (top_facts _ a b h).1.first k hk)

/-- Where the first expert is. -/
theorem pay11_apply (e : Fin 64) : k0_pay11 x0 x1 x2 (ix2 e q) = BitVec.ofBool (decide (e = a)) :=
  isExpert _ e q a (pay10_apply x0 x1 x2 q a b h)

/-- The exponentials with the first expert's overwritten. -/
theorem pay12_apply (e : Fin 64) : k0_pay12 x0 x1 x2 (ix2 e q) = masked (expo (blockRow x0 x1 x2 q)) a e := by
  have hs : k0_pay12 x0 x1 x2 (ix2 e q) = Scalar.select (k0_pay11 x0 x1 x2 (ix2 e q)) (Ideal.ofBits .f32 0xBF800000#32)
      (k0_pay8 x0 x1 x2 (ix2 e q)) := rfl
  rw [hs, pay11_apply x0 x1 x2 q a b h, pay8_apply, select_ofBool, ofBits_neg_one]
  rfl

/-- The second greatest exponential. -/
theorem pay13_apply : k0_pay13 x0 x1 x2 (ix2 (0 : Fin 1) q) = expo (blockRow x0 x1 x2 q) b := by
  have hm := masked_top _ a b h
  have hs : k0_pay13 x0 x1 x2 = shapeCast S1x1024 (multiReduction .maximumf [0] S1024 (k0_pay12 x0 x1 x2) 0xFF800000#32
      reduces_S64x1024_S1024 (.inl rfl) rfl) shapeCasts_S1024_S1x1024 := rfl
  rw [hs]
  refine (shapeCast_a_1a_apply _ _ 0 q).trans ((colMax_apply _ _ _ _ q).trans ?_)
  rw [show (fun e => k0_pay12 x0 x1 x2 (ix2 e q)) = masked (expo (blockRow x0 x1 x2 q)) a from
    funext fun e => pay12_apply x0 x1 x2 q a b h e, rowMax_eq _ b hm.2, hm.1]

/-- The second expert. -/
theorem pay14_apply : k0_pay14 x0 x1 x2 (ix2 (0 : Fin 1) q) = BitVec.ofNat 32 b.val :=
  (shapeCast_a_1a_apply _ _ 0 q).trans (argMax_apply _ _ q b fun k hk => by
    rw [pay12_apply x0 x1 x2 q a b h, pay12_apply x0 x1 x2 q a b h]; exact (masked_top _ a b h).2 k hk)

/-- Where the second expert is. -/
theorem pay15_apply (e : Fin 64) : k0_pay15 x0 x1 x2 (ix2 e q) = BitVec.ofBool (decide (e = b)) :=
  isExpert _ e q b (pay14_apply x0 x1 x2 q a b h)

/-- The one-hot matrix has a one at the token's two experts. -/
theorem ohB_apply (e : Fin 64) : ohB x0 x1 x2 (ix2 e q) = ((if e = a ∨ e = b then 1 else 0 : ℕ) : EReal) := by
  have hs : ohB x0 x1 x2 (ix2 e q) = Scalar.select (k0_pay11 x0 x1 x2 (ix2 e q)) (Ideal.ofBits .f32 0x3F800000#32) (Ideal.ofBits .f32 0x00000000#32)
      + Scalar.select (k0_pay15 x0 x1 x2 (ix2 e q)) (Ideal.ofBits .f32 0x3F800000#32) (Ideal.ofBits .f32 0x00000000#32) := rfl
  rw [hs, pay11_apply x0 x1 x2 q a b h, pay15_apply x0 x1 x2 q a b h, select_ofBool, select_ofBool, Ideal.ofBits_one_f32, Ideal.ofBits_zero_f32]
  have hba := h.ne
  by_cases ha : e = a
  · have hb : e ≠ b := fun w => hba (w.symm.trans ha)
    simp [ha, hba.symm]
  · by_cases hb : e = b
    · simp [ha, hb, hba]
    · simp [ha, hb]

/-- The same in the narrower format. -/
theorem oh16B_apply (e : Fin 64) : oh16B x0 x1 x2 (ix2 e q) = ((if e = a ∨ e = b then 1 else 0 : ℕ) : EReal) :=
  ohB_apply x0 x1 x2 q a b h e

/-- The probability given: the first expert's at the first expert, the second's elsewhere. -/
theorem probB_apply (e : Fin 64) : probB x0 x1 x2 (ix2 e q)
    = if e = a then prob (blockRow x0 x1 x2 q) a else prob (blockRow x0 x1 x2 q) b := by
  have h1 : broadcastTo S64x1024 (shapeCast S1x1024 (k0_pay9 x0 x1 x2) shapeCasts_S1x1024_S1x1024) broadcasts_S1x1024_S64x1024 (ix2 e q)
      = prob (blockRow x0 x1 x2 q) a := by
    rw [shapeCast_self]
    exact (broadcastTo_1b_ab_apply _ _ e q).trans ((pay9_apply x0 x1 x2 q).trans (prob_first _ a b h))
  have h2 : broadcastTo S64x1024 (shapeCast S1x1024 (mulf (k0_pay13 x0 x1 x2) (k0_pay9 x0 x1 x2)) shapeCasts_S1x1024_S1x1024)
      broadcasts_S1x1024_S64x1024 (ix2 e q) = prob (blockRow x0 x1 x2 q) b := by
    rw [shapeCast_self]
    refine (broadcastTo_1b_ab_apply _ _ e q).trans ?_
    show k0_pay13 x0 x1 x2 (ix2 (0 : Fin 1) q) * k0_pay9 x0 x1 x2 (ix2 (0 : Fin 1) q) = _
    rw [pay13_apply x0 x1 x2 q a b h, pay9_apply, prob_mul _ a b h]
  unfold probB k0_pay22
  rw [show ∀ (c : IVec S64x1024 1) (x y : FVec Ideal S64x1024 .f32) j, select c x y j = Scalar.select (c j) (x j) (y j) from fun _ _ _ _ => rfl, h1, h2, pay11_apply x0 x1 x2 q a b h, select_ofBool]

/-- The first row of indices. -/
theorem idxB_first : idxB x0 x1 x2 (ix2 (0 : Fin 2) q) = BitVec.ofNat 32 a.val :=
  (concatenate_pair_apply_left (t := S2x1024) (s₁ := S1x1024) (s₂ := S1x1024) 0 _ _ concatenates_S1x1024_S1x1024_S2x1024_d0 (ix2 (0 : Fin 2) q) rfl (ix2 (0 : Fin 1) q) (fun c => match c with
    | ⟨0, _⟩ => rfl
    | ⟨1, _⟩ => rfl)).trans (pay10_apply x0 x1 x2 q a b h)

/-- The second row of indices. -/
theorem idxB_second : idxB x0 x1 x2 (ix2 (1 : Fin 2) q) = BitVec.ofNat 32 b.val :=
  (concatenate_pair_apply_right (t := S2x1024) (s₁ := S1x1024) (s₂ := S1x1024) 0 _ _ concatenates_S1x1024_S1x1024_S2x1024_d0 (ix2 (1 : Fin 2) q) rfl rfl (ix2 (0 : Fin 1) q) (fun c => match c with
    | ⟨0, _⟩ => fun w => absurd rfl w
    | ⟨1, _⟩ => fun _ => rfl) rfl).trans (pay14_apply x0 x1 x2 q a b h)

end Token

/-! ## The running counts -/

/-- A chunk's entry. -/
theorem chunk_apply {α : Type} (v : S64x1024.Idx → α) (n : ℕ) (hn : n < 8) (e : Fin 64) (q : Fin 128) (r : Fin 1024) (hr : r.val = 128 * n + q.val) :
    chunk v n hn (ix2 e q) = v (ix2 e r) :=
  slice2_axis1_apply (128 * n) v _ e q r hr

/-- A last column's entry. -/
theorem lastCol_apply {α : Type} (v : S64x128.Idx → α) (e : Fin 64) : lastCol v (ix2 e (0 : Fin 1)) = v (ix2 e (127 : Fin 128)) :=
  slice2_axis1_apply 127 v _ e (0 : Fin 1) (127 : Fin 128) rfl

section Counts

variable (oh : FVec Ideal S64x1024 .bf16) (tri : FVec Ideal S128x128 .bf16) (e : Fin 64) (f : ℕ → ℕ)
  (ho : ∀ q : Fin 1024, oh (ix2 e q) = ((f q.val : ℕ) : EReal))
  (ht : ∀ k q : Fin 128, tri (ix2 k q) = ((if k.val ≤ q.val then 1 else 0 : ℕ) : EReal))

include ho ht

/-- A chunk's running count: the count before it plus its ones up to the column. -/
theorem chunkInc_apply (p : FVec Ideal S64x1 .f32) (P : ℕ) (hp : p (ix2 e (0 : Fin 1)) = ((P : ℕ) : EReal)) (n : ℕ) (hn : n < 8) (q : Fin 128) :
    chunkInc oh tri p n hn (ix2 e q) = ((P + ∑ i ∈ Finset.range (q.val + 1), f (128 * n + i) : ℕ) : EReal) := by
  have hd : dot_S64x128_S128x128_S64x128_1_0_0_1_n_n = DotDims.plain 64 128 128 := rfl
  have hb : broadcastTo S64x128 p broadcasts_S64x1_S64x128 (ix2 e q) = ((P : ℕ) : EReal) := by
    refine (broadcastTo_apply _ _ (ix2 e q) (ix2 e (0 : Fin 1)) fun ax => ?_).trans hp
    match ax with
    | ⟨0, _⟩ => rfl
    | ⟨1, _⟩ => rfl
  have hm : matmul dot_S64x128_S128x128_S64x128_1_0_0_1_n_n none (chunk oh n hn) tri (constant S64x128 .f32 0x00000000#32) (ix2 e q)
      = ((∑ i ∈ Finset.range (q.val + 1), f (128 * n + i) : ℕ) : EReal) := by
    rw [hd]
    refine (Ideal.matmul_plain_apply none (chunk oh n hn) tri _ e q).trans ?_
    show Ideal.ofBits .f32 0x00000000#32 + _ = _
    rw [Ideal.ofBits_zero_f32, zero_add]
    have hk : ∀ k : Fin 128, chunk oh n hn (ix2 e k) * tri (ix2 k q) = ((if k.val ≤ q.val then f (128 * n + k.val) else 0 : ℕ) : EReal) := fun k => by
      rw [chunk_apply oh n hn e k ⟨128 * n + k.val, by omega⟩ rfl, ho, ht]
      by_cases hkq : k.val ≤ q.val <;> simp [hkq]
    rw [Finset.sum_congr rfl fun k _ => hk k, ← Nat.cast_sum]
    refine congrArg (Nat.cast (R := EReal)) ?_
    rw [Fin.sum_univ_eq_sum_range (fun i => if i ≤ q.val then f (128 * n + i) else 0) 128, ← Finset.sum_filter]
    refine Finset.sum_congr (Finset.ext fun i => ?_) fun _ _ => rfl
    simp only [Finset.mem_filter, Finset.mem_range]
    omega
  rw [Nat.cast_add, add_comm ((P : ℕ) : EReal)]
  exact congrArg₂ (fun a b : EReal => a + b) hm hb

/-- The running count at a chunk's column is the number of ones in the block up to it. -/
theorem incs_apply : ∀ (n : ℕ) (hn : n < 8) (q : Fin 128),
    incs oh tri n hn (ix2 e q) = ((∑ i ∈ Finset.range (128 * n + q.val + 1), f i : ℕ) : EReal)
  | 0, hn, q => by
    refine (chunkInc_apply oh tri e f ho ht _ 0 ?_ 0 hn q).trans ?_
    · show Ideal.ofBits .f32 0x00000000#32 = _
      rw [Ideal.ofBits_zero_f32, Nat.cast_zero]
    · simp
  | n + 1, hn, q => by
    refine (chunkInc_apply oh tri e f ho ht _ _ ((lastCol_apply _ e).trans (incs_apply n _ 127)) (n + 1) hn q).trans ?_
    refine congrArg (Nat.cast (R := EReal)) ?_
    rw [show 128 * (n + 1) + q.val + 1 = 128 * (n + 1) + (q.val + 1) by omega, Finset.sum_range_add f (128 * (n + 1))]
    rfl

/-- A kept entry: the one-hot entry where the count so far and the count before the block are within the capacity. -/
theorem kept_apply (oh32 : FVec Ideal S64x1024 .f32) (ho32 : ∀ q : Fin 1024, oh32 (ix2 e q) = ((f q.val : ℕ) : EReal))
    (xs : Vec Ideal S64x1 .f32) (C : ℕ) (hx : xs (ix2 e (0 : Fin 1)) = ((C : ℕ) : EReal)) (n : ℕ) (hn : n < 8) (q : Fin 128) :
    kept oh32 oh tri (k0_pay23 xs) n hn (ix2 e q)
      = ((if C + ∑ i ∈ Finset.range (128 * n + q.val + 1), f i ≤ 640 then f (128 * n + q.val) else 0 : ℕ) : EReal) := by
  have hr : broadcastTo S64x128 (k0_pay23 xs) broadcasts_S64x1_S64x128 (ix2 e q) = ((640 : ℝ) : EReal) - ((C : ℕ) : EReal) := by
    refine (broadcastTo_apply _ _ (ix2 e q) (ix2 e (0 : Fin 1)) fun ax => ?_).trans ?_
    · match ax with
      | ⟨0, _⟩ => rfl
      | ⟨1, _⟩ => rfl
    · show Ideal.ofBits .f32 0x44200000#32 - xs (ix2 e (0 : Fin 1)) = _
      rw [ofBits_640, hx]
  have hs : kept oh32 oh tri (k0_pay23 xs) n hn (ix2 e q)
      = Scalar.select (BitVec.ofBool (decide (incs oh tri n hn (ix2 e q) ≤ broadcastTo S64x128 (k0_pay23 xs) broadcasts_S64x1_S64x128 (ix2 e q))))
        (chunk oh32 n hn (ix2 e q)) (Ideal.ofBits .f32 0x00000000#32) := rfl
  rw [hs, hr, incs_apply oh tri e f ho ht n hn q, select_ofBool, Ideal.ofBits_zero_f32,
    chunk_apply oh32 n hn e q ⟨128 * n + q.val, by omega⟩ rfl, ho32]
  simp only [within_iff]
  split <;> simp

end Counts

/-- Eight chunks side by side, read at a column: the column's chunk at its place there. -/
theorem join_apply {α : Type} (g : (n : ℕ) → n < 8 → S64x128.Idx → α) (e : Fin 64) (q : Fin 1024) :
    join g (ix2 e q) = g (q.val / 128) (by omega) (ix2 e ⟨q.val % 128, by omega⟩) :=
  concatenate_ofFn_apply (t := S64x1024) (s₁ := S64x128) 1 (N := 8) (fun n => g n.val n.isLt)
    concatenates_S64x128_S64x128_S64x128_S64x128_S64x128_S64x128_S64x128_S64x128_S64x1024_d1 rfl 128 rfl (ix2 e q)
    ⟨q.val / 128, by omega⟩ rfl (ix2 e ⟨q.val % 128, by omega⟩) rfl (fun c => match c with
      | ⟨0, _⟩ => fun _ => rfl
      | ⟨1, _⟩ => fun w => absurd rfl w)

/-! ## A block's results -/

section Results

variable (x0 : Vec Ideal S1024x768 .f32) (x1 : Vec Ideal S768x64 .f32) (x2 : Vec Ideal S1x64 .f32) (x3 : Vec Ideal S128x128 .bf16)
  (xs : Vec Ideal S64x1 .f32) (a b : ℕ → Fin 64) (e : Fin 64) (C : ℕ)
  (h : ∀ q : Fin 1024, TopTwo (prob (blockRow x0 x1 x2 q)) (a q.val) (b q.val))
  (ht : ∀ k q : Fin 128, x3 (ix2 k q) = ((if k.val ≤ q.val then 1 else 0 : ℕ) : EReal))

include h ht

/-- The counts left: those found plus the block's ones. -/
theorem carryB_apply (hx : xs (ix2 e (0 : Fin 1)) = ((C : ℕ) : EReal)) : carryB x0 x1 x2 x3 xs (ix2 e (0 : Fin 1))
    = ((C + ∑ i ∈ Finset.range 1024, (if e = a i ∨ e = b i then 1 else 0) : ℕ) : EReal) := by
  have ht' : ∀ k q : Fin 128, k0_pay21 x3 (ix2 k q) = ((if k.val ≤ q.val then 1 else 0 : ℕ) : EReal) := by
    unfold k0_pay21; rw [shapeCast_self]; exact ht
  have hi := incs_apply (oh16B x0 x1 x2) (k0_pay21 x3) e (fun i => if e = a i ∨ e = b i then 1 else 0)
    (fun q => oh16B_apply x0 x1 x2 q _ _ (h q) e) ht' 7 (by decide) 127
  unfold carryB
  rw [shapeCast_self]
  show xs (ix2 e (0 : Fin 1)) + lastCol _ (ix2 e (0 : Fin 1)) = _
  rw [hx, lastCol_apply, hi, Nat.cast_add]
  rfl

/-- A routed entry. -/
theorem routedB_apply (hx : xs (ix2 e (0 : Fin 1)) = ((C : ℕ) : EReal)) (q : Fin 1024) : routedB x0 x1 x2 x3 xs (ix2 e q)
    = ((if C + ∑ i ∈ Finset.range (q.val + 1), (if e = a i ∨ e = b i then 1 else 0) ≤ 640
        then (if e = a q.val ∨ e = b q.val then 1 else 0) else 0 : ℕ) : EReal) := by
  have ht' : ∀ k q : Fin 128, k0_pay21 x3 (ix2 k q) = ((if k.val ≤ q.val then 1 else 0 : ℕ) : EReal) := by
    unfold k0_pay21; rw [shapeCast_self]; exact ht
  have hk := kept_apply (oh16B x0 x1 x2) (k0_pay21 x3) e (fun i => if e = a i ∨ e = b i then 1 else 0)
    (fun q => oh16B_apply x0 x1 x2 q _ _ (h q) e) ht' (ohB x0 x1 x2) (fun q => ohB_apply x0 x1 x2 q _ _ (h q) e) xs C hx
    (q.val / 128) (by omega) ⟨q.val % 128, by omega⟩
  simp only [Nat.div_add_mod] at hk
  exact (join_apply _ e q).trans hk

/-- A routed probability is the routed entry times the probability given. -/
theorem rprobB_apply (q : Fin 1024) : rprobB x0 x1 x2 x3 xs (ix2 e q)
    = routedB x0 x1 x2 x3 xs (ix2 e q) * (if e = a q.val then prob (blockRow x0 x1 x2 q) (a q.val) else prob (blockRow x0 x1 x2 q) (b q.val)) := by
  have hc : chunk (probB x0 x1 x2) (q.val / 128) (by omega) (ix2 e ⟨q.val % 128, by omega⟩) = probB x0 x1 x2 (ix2 e q) :=
    chunk_apply _ _ _ _ _ q (Nat.div_add_mod q.val 128).symm
  rw [← probB_apply x0 x1 x2 q _ _ (h q) e, ← hc]
  unfold rprobB routedB
  rw [join_apply, join_apply]
  rfl

end Results

end Cert.Proof

end
-- ==== Proof.Spec.lean ====
/-
  What both programs compute, token by token: a token's logits, its two experts, the number of earlier choices of an
  expert, and the entries of the three result arrays.
-/
module

public import proofs.«01_k».proof.Proof.Block

@[expose] public section

noncomputable section

namespace Cert.Proof

open Idealize.ShloMosaic Idealize.ShloMosaic.ValueIdx
open scoped BigOperators

section Spec

variable (x : FVec Ideal (Mat 32768 768) .f32) (w : FVec Ideal (Mat 768 64) .f32) (b : FVec Ideal (Row 64) .f32)

/-- Token `r`'s logits. -/
def tokRow (r : Fin 32768) (e : Fin 64) : EReal := (∑ k : Fin 768, x (ix2 r k) * w (ix2 k e)) + b (ix1 e)

/-- Token number `n`. -/
def tok (n : ℕ) : Fin 32768 := ⟨n % 32768, Nat.mod_lt _ (by decide)⟩

/-- A token's own number. -/
theorem tok_val (r : Fin 32768) : tok r.val = r := Fin.ext (Nat.mod_eq_of_lt r.isLt)

/-- The expert at place `p` of token `n`'s sorted probabilities. -/
def expert (p : Fin 64) (n : ℕ) : Fin 64 := place (prob (tokRow x w b (tok n))) p

/-- Whether token `n` chooses expert `e`, as a number. -/
def hot (e : Fin 64) (n : ℕ) : ℕ := if e = expert x w b 0 n ∨ e = expert x w b 1 n then 1 else 0

/-- How many of the first `n` tokens choose expert `e`. -/
def cnt (e : Fin 64) (n : ℕ) : ℕ := ∑ i ∈ Finset.range n, hot x w b e i

/-- The routed entry of expert `e` and token `r`: one where the token chooses it within its capacity. -/
def routedAt (e : Fin 64) (r : Fin 32768) : EReal :=
  ((if cnt x w b e (r.val + 1) ≤ 640 then hot x w b e r.val else 0 : ℕ) : EReal)

/-- The routed probability. -/
def rprobAt (e : Fin 64) (r : Fin 32768) : EReal := routedAt x w b e r * prob (tokRow x w b r) e

/-- The word of the expert at place `p`. -/
def indexAt (p : Fin 64) (r : Fin 32768) : BitVec 32 := BitVec.ofNat 32 (expert x w b p r.val).val

/-- No token's first three probabilities tie. -/
def NoTie : Prop := ∀ r, TopTwo (prob (tokRow x w b r)) (place (prob (tokRow x w b r)) 0) (place (prob (tokRow x w b r)) 1)

/-- The count before a block of tokens plus the block's own up to a token. -/
theorem cnt_add (e : Fin 64) (n k : ℕ) : cnt x w b e (n + k) = cnt x w b e n + ∑ i ∈ Finset.range k, hot x w b e (n + i) :=
  Finset.sum_range_add (fun i => hot x w b e i) n k

/-- A routed probability, with the probability read at the chosen expert only. -/
theorem rprobAt_eq (e : Fin 64) (r : Fin 32768) : rprobAt x w b e r
    = routedAt x w b e r * (if e = expert x w b 0 r.val then prob (tokRow x w b r) (expert x w b 0 r.val)
        else prob (tokRow x w b r) (expert x w b 1 r.val)) := by
  unfold rprobAt
  by_cases h0 : e = expert x w b 0 r.val
  · rw [if_pos h0, ← h0]
  · rw [if_neg h0]
    by_cases h1 : e = expert x w b 1 r.val
    · rw [← h1]
    · have hz : routedAt x w b e r = 0 := by
        unfold routedAt hot
        rw [if_neg (not_or.mpr ⟨h0, h1⟩), ite_self, Nat.cast_zero]
      rw [hz, zero_mul, zero_mul]

end Spec

end Cert.Proof

end
-- ==== Proof.KernelValue.lean ====
/-
  The kernel's three arrays after its run, over the extended reals: the blocks it reads, the counts it carries from
  point to point, and the arrays its points write back.
-/
module

public import proofs.«01_k».proof.Proof.Spec

@[expose] public section

set_option maxRecDepth 16384

noncomputable section

namespace Cert.Proof

open Cert.KernelIdeal Cert.KernelIdeal.Gen
open Idealize.ShloMosaic Idealize.ShloMosaic.TcCoe Idealize.ShloMosaic.ValueIdx
open Idealize.SL.Sem
open scoped BigOperators

variable (m : (ℓ : Loc nD τ sig) → Buf (Elt Ideal) ℓ) (c : Dev nD)

/-- The tokens as launched. -/
abbrev kx : FVec Ideal (Mat 32768 768) .f32 := m ((c : Thread nD τ).loc main_arg0)
/-- The weights as launched. -/
abbrev kw : FVec Ideal (Mat 768 64) .f32 := m ((c : Thread nD τ).loc main_arg1)
/-- The bias as launched. -/
abbrev kb : FVec Ideal (Row 64) .f32 := m ((c : Thread nD τ).loc main_arg2)

/-! ## What the region reads -/

/-- The bias, as a one-row matrix. -/
theorem V_bias : V m c main_call0_v4 = shapeCast S1x64 (kb m c) Facts₀.shapeCasts_S64_S1x64 := by
  show StableHlo.after hostOps0 _ (Proc.devRef .tc main_call0_v4) = _
  after_results
  rfl

/-- The triangle. -/
theorem V_tri : V m c main_call0_v3 = uitofp (F := Ideal) .bf16 (cmpi .sle (iotaInDim S128x128 32 0) (iotaInDim S128x128 32 1)) := by
  show StableHlo.after hostOps0 _ (Proc.devRef .tc main_call0_v3) = _
  after_results
  try rfl

/-- The input windows' index maps: the tokens' block moves with the point, the others stand still. -/
theorem inFacts : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0) :=
  (by decide +kernel : ∀ t : Fin grid0.N, _)

/-- The output windows' index maps: the token block moves with the point. -/
theorem outFacts : ∀ t : Fin cfg0.N, (win0_4.index t (0 : Fin 2) = 0 ∧ win0_4.index t (1 : Fin 2) = t.val)
    ∧ (win0_5.index t (0 : Fin 2) = 0 ∧ win0_5.index t (1 : Fin 2) = t.val)
    ∧ (win0_6.index t (0 : Fin 2) = 0 ∧ win0_6.index t (1 : Fin 2) = t.val) :=
  (by decide +kernel : ∀ t : Fin grid0.N, _)

/-- Every point writes its three blocks back. -/
theorem outFlush : ∀ t : Fin cfg0.N, (cfg0.win 4).flush t = true ∧ (cfg0.win 5).flush t = true ∧ (cfg0.win 6).flush t = true :=
  (by decide +kernel : ∀ t : Fin grid0.N, win0_4.flush t = true ∧ win0_5.flush t = true ∧ win0_6.flush t = true)

/-- There are 32 points. -/
theorem point_lt (t : Fin cfg0.N) : t.val < 32 := lt_of_lt_of_eq t.isLt N_0

/-- A block of tokens. -/
theorem xBlock (t : Fin cfg0.N) (q : Fin 1024) (k : Fin 768) (r : Fin 32768) (hr : r.val = 1024 * t.val + q.val) :
    iblk m c 0 t (ix2 q k) = kx m c (ix2 r k) := by
  show V m c main_arg0 (((cfg0.win 0).blk t).view.emb (ix2 q k)) = _
  rw [V_main_arg0]
  refine congrArg (m ((c : Thread nD τ).loc main_arg0)) (funext fun a => Fin.ext ?_)
  obtain ⟨⟨h0, h1⟩, -⟩ := inFacts t
  match a with
  | ⟨0, _⟩ => show win0_0.index t (0 : Fin 2) * 1024 + 1 * q.val = r.val; omega
  | ⟨1, _⟩ => show win0_0.index t (1 : Fin 2) * 768 + 1 * k.val = k.val; omega

/-- The weights' block. -/
theorem wBlock (t : Fin cfg0.N) (k : Fin 768) (e : Fin 64) : iblk m c 1 t (ix2 k e) = kw m c (ix2 k e) := by
  show V m c main_arg1 (((cfg0.win 1).blk t).view.emb (ix2 k e)) = _
  rw [V_main_arg1]
  refine congrArg (m ((c : Thread nD τ).loc main_arg1)) (funext fun a => Fin.ext ?_)
  obtain ⟨-, ⟨h0, h1⟩, -⟩ := inFacts t
  match a with
  | ⟨0, _⟩ => show win0_1.index t (0 : Fin 2) * 768 + 1 * k.val = k.val; omega
  | ⟨1, _⟩ => show win0_1.index t (1 : Fin 2) * 64 + 1 * e.val = e.val; omega

/-- The bias' block. -/
theorem bBlock (t : Fin cfg0.N) (e : Fin 64) : iblk m c 2 t (ix2 (0 : Fin 1) e) = kb m c (ix1 e) := by
  show V m c main_call0_v4 (((cfg0.win 2).blk t).view.emb (ix2 (0 : Fin 1) e)) = _
  rw [V_bias]
  refine (congrArg _ (funext fun a => Fin.ext ?_ : _ = ix2 (0 : Fin 1) e)).trans (shapeCast_a_1a_apply _ _ 0 e)
  obtain ⟨-, -, ⟨h0, h1⟩, -⟩ := inFacts t
  match a with
  | ⟨0, _⟩ => show win0_2.index t (0 : Fin 2) * 1 + 1 * 0 = 0; omega
  | ⟨1, _⟩ => show win0_2.index t (1 : Fin 2) * 64 + 1 * e.val = e.val; omega

/-- The triangle's block: one on and above the diagonal. -/
theorem triBlock (t : Fin cfg0.N) (k q : Fin 128) :
    iblk m c 3 t (ix2 k q) = ((if k.val ≤ q.val then 1 else 0 : ℕ) : EReal) := by
  show V m c main_call0_v3 (((cfg0.win 3).blk t).view.emb (ix2 k q)) = _
  rw [V_tri]
  have he : ((cfg0.win 3).blk t).view.emb (ix2 k q) = ix2 k q := by
    funext a; apply Fin.ext
    obtain ⟨-, -, -, h0, h1⟩ := inFacts t
    match a with
    | ⟨0, _⟩ => show win0_3.index t (0 : Fin 2) * 128 + 1 * k.val = k.val; omega
    | ⟨1, _⟩ => show win0_3.index t (1 : Fin 2) * 128 + 1 * q.val = q.val; omega
  rw [he]
  show (((IntOp.cmpi .sle (BitVec.ofNat 32 k.val) (BitVec.ofNat 32 q.val)).toNat : ℕ) : EReal) = _
  refine congrArg (Nat.cast (R := EReal)) ?_
  have hk := k.isLt
  have hq := q.isLt
  have hc : IntOp.cmpi .sle (BitVec.ofNat 32 k.val) (BitVec.ofNat 32 q.val) = BitVec.ofBool (decide (k.val ≤ q.val)) := by
    rw [WordCmp.cmpi_sle_eq]
    refine congrArg BitVec.ofBool (decide_eq_decide.mpr ?_)
    rw [BitVec.toInt_ofNat', BitVec.toInt_ofNat']
    simp only [Int.bmod]
    omega
  rw [hc]
  by_cases h : k.val ≤ q.val <;> simp [h]

/-- A block's row of logits is its token's. -/
theorem blockRow_eq (t : Fin cfg0.N) (q : Fin 1024) (r : Fin 32768) (hr : r.val = 1024 * t.val + q.val) :
    blockRow (iblk m c 0 t) (iblk m c 1 t) (iblk m c 2 t) q = tokRow (kx m c) (kw m c) (kb m c) r := by
  funext e
  unfold blockRow tokRow
  rw [bBlock]
  exact congrArg (· + kb m c (ix1 e)) (Finset.sum_congr rfl fun k _ => by rw [xBlock m c t q k r hr, wBlock])

/-! ## Point by point -/

/-- The counts point `t` finds: none at the first, what the point before left at a later one. -/
def found (t : Fin cfg0.N) : Vec Ideal S64x1 .f32 :=
  if t.val % 32 = 0 then k0_pay7 (F := Ideal) else (outsAt0 m c (t.val - 1) (Nat.lt_of_le_of_lt (Nat.sub_le _ _) t.isLt)).2.2.2

/-- What point `t` leaves, over the counts it finds. -/
theorem outsAt_eq (t : Fin cfg0.N) : outsAt0 m c t.val t.isLt
    = (routedB (iblk m c 0 t) (iblk m c 1 t) (iblk m c 2 t) (iblk m c 3 t) (found m c t),
       rprobB (iblk m c 0 t) (iblk m c 1 t) (iblk m c 2 t) (iblk m c 3 t) (found m c t),
       idxB (iblk m c 0 t) (iblk m c 1 t) (iblk m c 2 t),
       carryB (iblk m c 0 t) (iblk m c 1 t) (iblk m c 2 t) (iblk m c 3 t) (found m c t)) := by
  unfold found
  by_cases h : t.val % 32 = 0
  · rw [if_pos h, outsAt0_A m c t h, out4_A, out5_A, out6_A, sout_A]
  · rw [if_neg h, outsAt0_B m c t h, out4_B, out5_B, out6_B, sout_B]

section Values

variable (hT : NoTie (kx m c) (kw m c) (kb m c))

include hT

/-- The two experts of a block's token. -/
theorem block_top (t : Fin cfg0.N) (q : Fin 1024) : TopTwo (prob (blockRow (iblk m c 0 t) (iblk m c 1 t) (iblk m c 2 t) q))
    (expert (kx m c) (kw m c) (kb m c) 0 (1024 * t.val + q.val)) (expert (kx m c) (kw m c) (kb m c) 1 (1024 * t.val + q.val)) := by
  have ht := point_lt t
  have hq := q.isLt
  have hr : (tok (1024 * t.val + q.val)).val = 1024 * t.val + q.val := Nat.mod_eq_of_lt (by omega)
  rw [blockRow_eq m c t q (tok (1024 * t.val + q.val)) hr]
  exact hT _

/-- The counts left after point `n` are those of the tokens so far. -/
theorem carry_apply (e : Fin 64) : ∀ (n : ℕ) (hn : n < cfg0.N),
    (outsAt0 m c n hn).2.2.2 (ix2 e (0 : Fin 1)) = ((cnt (kx m c) (kw m c) (kb m c) e (1024 * (n + 1)) : ℕ) : EReal)
  | 0, hn => by
    have h := congrArg (fun o => o.2.2.2 (ix2 e (0 : Fin 1))) (outsAt_eq m c ⟨0, hn⟩)
    refine h.trans ((carryB_apply (iblk m c 0 ⟨0, hn⟩) (iblk m c 1 ⟨0, hn⟩) (iblk m c 2 ⟨0, hn⟩) (iblk m c 3 ⟨0, hn⟩) (found m c ⟨0, hn⟩) (fun q => expert (kx m c) (kw m c) (kb m c) 0 (1024 * 0 + q)) (fun q => expert (kx m c) (kw m c) (kb m c) 1 (1024 * 0 + q)) e 0 (block_top m c hT ⟨0, hn⟩) (triBlock m c ⟨0, hn⟩) ?_).trans ?_)
    · unfold found
      rw [if_pos (show (⟨0, hn⟩ : Fin cfg0.N).val % 32 = 0 from rfl)]
      unfold k0_pay7
      rw [shapeCast_self]
      show Ideal.ofBits .f32 0x00000000#32 = _
      rw [Ideal.ofBits_zero_f32, Nat.cast_zero]
    · refine congrArg (Nat.cast (R := EReal)) ?_
      rw [show 1024 * (0 + 1) = 0 + 1024 from rfl, cnt_add]
      rfl
  | n + 1, hn => by
    have hN : n + 1 < 32 := lt_of_lt_of_eq hn N_0
    have h := congrArg (fun o => o.2.2.2 (ix2 e (0 : Fin 1))) (outsAt_eq m c ⟨n + 1, hn⟩)
    refine h.trans ((carryB_apply (iblk m c 0 ⟨n + 1, hn⟩) (iblk m c 1 ⟨n + 1, hn⟩) (iblk m c 2 ⟨n + 1, hn⟩) (iblk m c 3 ⟨n + 1, hn⟩) (found m c ⟨n + 1, hn⟩) (fun q => expert (kx m c) (kw m c) (kb m c) 0 (1024 * (n + 1) + q)) (fun q => expert (kx m c) (kw m c) (kb m c) 1 (1024 * (n + 1) + q)) e (cnt (kx m c) (kw m c) (kb m c) e (1024 * (n + 1))) (block_top m c hT ⟨n + 1, hn⟩)
      (triBlock m c ⟨n + 1, hn⟩) ?_).trans ?_)
    · unfold found
      rw [if_neg (by show ¬ (n + 1) % 32 = 0; omega)]
      exact carry_apply e n _
    · refine congrArg (Nat.cast (R := EReal)) ?_
      rw [show 1024 * (n + 1 + 1) = 1024 * (n + 1) + 1024 by omega, cnt_add]
      rfl

/-- The counts point `t` finds are those of the tokens before its block. -/
theorem found_apply (t : Fin cfg0.N) (e : Fin 64) :
    found m c t (ix2 e (0 : Fin 1)) = ((cnt (kx m c) (kw m c) (kb m c) e (1024 * t.val) : ℕ) : EReal) := by
  have ht := point_lt t
  unfold found
  by_cases h : t.val % 32 = 0
  · rw [if_pos h]
    have h0 : t.val = 0 := by omega
    unfold k0_pay7
    rw [shapeCast_self, h0]
    show Ideal.ofBits .f32 0x00000000#32 = _
    rw [Ideal.ofBits_zero_f32]
    exact Nat.cast_zero.symm
  · rw [if_neg h, carry_apply m c hT]
    rw [show 1024 * (t.val - 1 + 1) = 1024 * t.val by omega]

/-- Point `t`'s routed entries. -/
theorem routed_point (t : Fin cfg0.N) (e : Fin 64) (q : Fin 1024) (r : Fin 32768) (hr : r.val = 1024 * t.val + q.val) :
    (outsAt0 m c t.val t.isLt).1 (ix2 e q) = routedAt (kx m c) (kw m c) (kb m c) e r := by
  rw [outsAt_eq]
  refine (routedB_apply (iblk m c 0 t) (iblk m c 1 t) (iblk m c 2 t) (iblk m c 3 t) (found m c t) (fun q => expert (kx m c) (kw m c) (kb m c) 0 (1024 * t.val + q)) (fun q => expert (kx m c) (kw m c) (kb m c) 1 (1024 * t.val + q)) e _ (block_top m c hT t) (triBlock m c t) (found_apply m c hT t e) q).trans ?_
  unfold routedAt
  rw [hr, show 1024 * t.val + q.val + 1 = 1024 * t.val + (q.val + 1) by omega, cnt_add]
  rfl

/-- Point `t`'s routed probabilities. -/
theorem rprob_point (t : Fin cfg0.N) (e : Fin 64) (q : Fin 1024) (r : Fin 32768) (hr : r.val = 1024 * t.val + q.val) :
    (outsAt0 m c t.val t.isLt).2.1 (ix2 e q) = rprobAt (kx m c) (kw m c) (kb m c) e r := by
  have h1 := routed_point m c hT t e q r hr
  rw [outsAt_eq] at h1 ⊢
  refine (rprobB_apply (iblk m c 0 t) (iblk m c 1 t) (iblk m c 2 t) (iblk m c 3 t) (found m c t) (fun q => expert (kx m c) (kw m c) (kb m c) 0 (1024 * t.val + q)) (fun q => expert (kx m c) (kw m c) (kb m c) 1 (1024 * t.val + q)) e (block_top m c hT t) (triBlock m c t) q).trans ?_
  rw [rprobAt_eq, blockRow_eq m c t q r hr, hr]
  exact congrArg (· * _) h1

/-- Point `t`'s indices. -/
theorem idx_point (t : Fin cfg0.N) (p : Fin 2) (q : Fin 1024) (r : Fin 32768) (hr : r.val = 1024 * t.val + q.val) :
    (outsAt0 m c t.val t.isLt).2.2.1 (ix2 p q) = indexAt (kx m c) (kw m c) (kb m c) (p.castLE (by decide)) r := by
  rw [outsAt_eq]
  unfold indexAt
  rw [hr]
  match p with
  | ⟨0, _⟩ => exact idxB_first _ _ _ q _ _ (block_top m c hT t q)
  | ⟨1, _⟩ => exact idxB_second _ _ _ q _ _ (block_top m c hT t q)

end Values

end Cert.Proof

end
-- ==== Proof.KernelRun.lean ====
/-
  The kernel's run over the extended reals: its three arrays whole, and the results the lines after it leave.
-/
module

public import proofs.«01_k».proof.Proof.KernelValue
public import Idealize.ShloMosaic.Lib.Pipeline.Value
public import Idealize.ShloMosaic.Lib.ValueLayout

@[expose] public section

set_option maxRecDepth 16384

noncomputable section

namespace Cert.Proof

open Cert.KernelIdeal Cert.KernelIdeal.Gen
open Idealize.ShloMosaic Idealize.ShloMosaic.TcCoe Idealize.ShloMosaic.ValueIdx
open Idealize.SL.Sem
open scoped BigOperators

variable (m : (ℓ : Loc nD τ sig) → Buf (Elt Ideal) ℓ) (ρ : Dev nD → PrngReg)

/-- The routed array, experts by tokens. -/
def routedArr (c : Dev nD) : Vec Ideal S64x32768 .f32 := fun i => routedAt (kx m c) (kw m c) (kb m c) (i 0) (i 1)
/-- The routed probabilities, experts by tokens. -/
def rprobArr (c : Dev nD) : Vec Ideal S64x32768 .f32 := fun i => rprobAt (kx m c) (kw m c) (kb m c) (i 0) (i 1)
/-- The indices, places by tokens. -/
def idxArr (c : Dev nD) : Vec Ideal S2x32768 .i32 :=
  fun i => indexAt (kx m c) (kw m c) (kb m c) ((i 0 : Fin 2).castLE (by decide)) (i 1)

/-- The point whose block holds a token. -/
def pointOf (r : Fin 32768) : Fin cfg0.N := ⟨r.val / 1024, lt_of_lt_of_eq (b := 32) (by have := r.isLt; omega) N_0.symm⟩

/-- The token at place `q` of point `t`'s block. -/
def tokenAt (t : Fin cfg0.N) (q : Fin 1024) : Fin 32768 :=
  ⟨1024 * t.val + q.val, by have := point_lt t; have := q.isLt; omega⟩

section Values

variable (c : Dev nD) (hT : NoTie (kx m c) (kw m c) (kb m c))

include hT

/-- Each point writes its part of the routed array. -/
theorem flushed_routed (t : Fin cfg0.N) :
    (dats m 0 c).flushed 4 t = ((cfg0.win 4).blk t).view.read (Elt Ideal) (routedArr m c) := by
  show (cfg0.win 4).cut (grid0.coords t) ((dats m 0 c).after 4 t) = _
  rw [after0_4]
  funext y
  let e : Fin 64 := ⟨(y 0).val, (y 0).isLt⟩
  let q : Fin 1024 := ⟨(y 1).val, (y 1).isLt⟩
  obtain ⟨⟨h0, h1⟩, -⟩ := outFacts t
  have hx : (cfg0.win 4).xinj (grid0.coords t) y = ix2 e q := by
    funext a
    match a with
    | ⟨0, _⟩ => rfl
    | ⟨1, _⟩ => rfl
  have hy : ((cfg0.win 4).blk t).view.emb y = ix2 e (tokenAt t q) := by
    funext a; apply Fin.ext
    match a with
    | ⟨0, _⟩ => show win0_4.index t (0 : Fin 2) * 64 + 1 * (y 0).val = (y 0).val; omega
    | ⟨1, _⟩ => show win0_4.index t (1 : Fin 2) * 1024 + 1 * (y 1).val = 1024 * t.val + (y 1).val; omega
  show (outsAt0 m c t.val t.isLt).1 ((cfg0.win 4).xinj (grid0.coords t) y)
    = routedArr m c (((cfg0.win 4).blk t).view.emb y)
  rw [hx, hy]
  exact routed_point m c hT t e q (tokenAt t q) rfl

/-- Each point writes its part of the routed probabilities. -/
theorem flushed_rprob (t : Fin cfg0.N) :
    (dats m 0 c).flushed 5 t = ((cfg0.win 5).blk t).view.read (Elt Ideal) (rprobArr m c) := by
  show (cfg0.win 5).cut (grid0.coords t) ((dats m 0 c).after 5 t) = _
  rw [after0_5]
  funext y
  let e : Fin 64 := ⟨(y 0).val, (y 0).isLt⟩
  let q : Fin 1024 := ⟨(y 1).val, (y 1).isLt⟩
  obtain ⟨-, ⟨h0, h1⟩, -⟩ := outFacts t
  have hx : (cfg0.win 5).xinj (grid0.coords t) y = ix2 e q := by
    funext a
    match a with
    | ⟨0, _⟩ => rfl
    | ⟨1, _⟩ => rfl
  have hy : ((cfg0.win 5).blk t).view.emb y = ix2 e (tokenAt t q) := by
    funext a; apply Fin.ext
    match a with
    | ⟨0, _⟩ => show win0_5.index t (0 : Fin 2) * 64 + 1 * (y 0).val = (y 0).val; omega
    | ⟨1, _⟩ => show win0_5.index t (1 : Fin 2) * 1024 + 1 * (y 1).val = 1024 * t.val + (y 1).val; omega
  show (outsAt0 m c t.val t.isLt).2.1 ((cfg0.win 5).xinj (grid0.coords t) y)
    = rprobArr m c (((cfg0.win 5).blk t).view.emb y)
  rw [hx, hy]
  exact rprob_point m c hT t e q (tokenAt t q) rfl

/-- Each point writes its part of the indices. -/
theorem flushed_idx (t : Fin cfg0.N) :
    (dats m 0 c).flushed 6 t = ((cfg0.win 6).blk t).view.read (Elt Ideal) (idxArr m c) := by
  show (cfg0.win 6).cut (grid0.coords t) ((dats m 0 c).after 6 t) = _
  rw [after0_6]
  funext y
  let p : Fin 2 := ⟨(y 0).val, (y 0).isLt⟩
  let q : Fin 1024 := ⟨(y 1).val, (y 1).isLt⟩
  obtain ⟨-, -, h0, h1⟩ := outFacts t
  have hx : (cfg0.win 6).xinj (grid0.coords t) y = ix2 p q := by
    funext a
    match a with
    | ⟨0, _⟩ => rfl
    | ⟨1, _⟩ => rfl
  have hy : ((cfg0.win 6).blk t).view.emb y = ix2 p (tokenAt t q) := by
    funext a; apply Fin.ext
    match a with
    | ⟨0, _⟩ => show win0_6.index t (0 : Fin 2) * 2 + 1 * (y 0).val = (y 0).val; omega
    | ⟨1, _⟩ => show win0_6.index t (1 : Fin 2) * 1024 + 1 * (y 1).val = 1024 * t.val + (y 1).val; omega
  show (outsAt0 m c t.val t.isLt).2.2.1 ((cfg0.win 6).xinj (grid0.coords t) y)
    = idxArr m c (((cfg0.win 6).blk t).view.emb y)
  rw [hx, hy]
  exact idx_point m c hT t p q (tokenAt t q) rfl

omit hT

/-- Every entry of the routed array lies in a point's block. -/
theorem cover_routed (i : S64x32768.Idx) :
    ∃ t : Fin cfg0.N, (cfg0.win 4).flush t = true ∧ i ∈ ((cfg0.win 4).blk t).view.set := by
  refine ⟨pointOf (i 1), (outFlush _).1, ?_⟩
  obtain ⟨⟨h0, h1⟩, -⟩ := outFacts (pointOf (i 1))
  have hv : (pointOf (i 1)).val = (i 1).val / 1024 := rfl
  have b0 : (i 0).val < 64 := (i 0).isLt
  show i ∈ ((View.whole main_call0_v5_0).slice (win0_4.rect (pointOf (i 1)))).set
  rw [View.set_slice_whole, Rect.mem_set_unit]
  intro a
  match a with
  | ⟨0, _⟩ => show win0_4.index (pointOf (i 1)) (0 : Fin 2) * 64 ≤ (i 0).val ∧ (i 0).val < win0_4.index (pointOf (i 1)) (0 : Fin 2) * 64 + 64; omega
  | ⟨1, _⟩ => show win0_4.index (pointOf (i 1)) (1 : Fin 2) * 1024 ≤ (i 1).val ∧ (i 1).val < win0_4.index (pointOf (i 1)) (1 : Fin 2) * 1024 + 1024; omega

/-- Every entry of the routed probabilities lies in a point's block. -/
theorem cover_rprob (i : S64x32768.Idx) :
    ∃ t : Fin cfg0.N, (cfg0.win 5).flush t = true ∧ i ∈ ((cfg0.win 5).blk t).view.set := by
  refine ⟨pointOf (i 1), (outFlush _).2.1, ?_⟩
  obtain ⟨-, ⟨h0, h1⟩, -⟩ := outFacts (pointOf (i 1))
  have hv : (pointOf (i 1)).val = (i 1).val / 1024 := rfl
  have b0 : (i 0).val < 64 := (i 0).isLt
  show i ∈ ((View.whole main_call0_v5_1).slice (win0_5.rect (pointOf (i 1)))).set
  rw [View.set_slice_whole, Rect.mem_set_unit]
  intro a
  match a with
  | ⟨0, _⟩ => show win0_5.index (pointOf (i 1)) (0 : Fin 2) * 64 ≤ (i 0).val ∧ (i 0).val < win0_5.index (pointOf (i 1)) (0 : Fin 2) * 64 + 64; omega
  | ⟨1, _⟩ => show win0_5.index (pointOf (i 1)) (1 : Fin 2) * 1024 ≤ (i 1).val ∧ (i 1).val < win0_5.index (pointOf (i 1)) (1 : Fin 2) * 1024 + 1024; omega

/-- Every entry of the indices lies in a point's block. -/
theorem cover_idx (i : S2x32768.Idx) :
    ∃ t : Fin cfg0.N, (cfg0.win 6).flush t = true ∧ i ∈ ((cfg0.win 6).blk t).view.set := by
  refine ⟨pointOf (i 1), (outFlush _).2.2, ?_⟩
  obtain ⟨-, -, h0, h1⟩ := outFacts (pointOf (i 1))
  have hv : (pointOf (i 1)).val = (i 1).val / 1024 := rfl
  have b0 : (i 0).val < 2 := (i 0).isLt
  show i ∈ ((View.whole main_call0_v5_2).slice (win0_6.rect (pointOf (i 1)))).set
  rw [View.set_slice_whole, Rect.mem_set_unit]
  intro a
  match a with
  | ⟨0, _⟩ => show win0_6.index (pointOf (i 1)) (0 : Fin 2) * 2 ≤ (i 0).val ∧ (i 0).val < win0_6.index (pointOf (i 1)) (0 : Fin 2) * 2 + 2; omega
  | ⟨1, _⟩ => show win0_6.index (pointOf (i 1)) (1 : Fin 2) * 1024 ≤ (i 1).val ∧ (i 1).val < win0_6.index (pointOf (i 1)) (1 : Fin 2) * 1024 + 1024; omega

include hT

/-- The routed array after the run. -/
theorem final_routed : (dats m 0 c).arrAt 4 cfg0.N = routedArr m c :=
  (dats m 0 c).arrAt_eq_of_cover 4 (routedArr m c) (fun t _ => flushed_routed m c hT t) cover_routed

/-- The routed probabilities after the run. -/
theorem final_rprob : (dats m 0 c).arrAt 5 cfg0.N = rprobArr m c :=
  (dats m 0 c).arrAt_eq_of_cover 5 (rprobArr m c) (fun t _ => flushed_rprob m c hT t) cover_rprob

/-- The indices after the run. -/
theorem final_idx : (dats m 0 c).arrAt 6 cfg0.N = idxArr m c :=
  (dats m 0 c).arrAt_eq_of_cover 6 (idxArr m c) (fun t _ => flushed_idx m c hT t) cover_idx

/-- The first result: the routed array transposed. -/
theorem tail_routed : Pipeline.afterTail₀ cfgs (dats m) 0 (V0 m) [hostOps1] c main_v0_0
    = transpose S32768x64 [1, 0] (routedArr m c) Facts₀.transposes_S64x32768_S32768x64_1_0 := by
  unfold Pipeline.afterTail₀
  show StableHlo.after hostOps1 _ (Proc.devRef .tc main_v0_0) = _
  after_results
  simp only [StableHlo.TRef.toBuf, StableHlo.TRef.ofBuf, cast_eq]
  exact congrArg (transpose S32768x64 [1, 0] · Facts₀.transposes_S64x32768_S32768x64_1_0)
    ((Pipeline.withArrays_arr spec0 launch0.win.arr_inj c _ _ 4).trans (final_routed m c hT))

/-- The second result: the routed probabilities transposed. -/
theorem tail_rprob : Pipeline.afterTail₀ cfgs (dats m) 0 (V0 m) [hostOps1] c main_v0_1
    = transpose S32768x64 [1, 0] (rprobArr m c) Facts₀.transposes_S64x32768_S32768x64_1_0 := by
  unfold Pipeline.afterTail₀
  show StableHlo.after hostOps1 _ (Proc.devRef .tc main_v0_1) = _
  after_results
  simp only [StableHlo.TRef.toBuf, StableHlo.TRef.ofBuf, cast_eq]
  exact congrArg (transpose S32768x64 [1, 0] · Facts₀.transposes_S64x32768_S32768x64_1_0)
    ((Pipeline.withArrays_arr spec0 launch0.win.arr_inj c _ _ 5).trans (final_rprob m c hT))

/-- The third result: the indices transposed. -/
theorem tail_idx : Pipeline.afterTail₀ cfgs (dats m) 0 (V0 m) [hostOps1] c main_v0_2
    = transpose S32768x2 [1, 0] (idxArr m c) Facts₀.transposes_S2x32768_S32768x2_1_0 := by
  unfold Pipeline.afterTail₀
  show StableHlo.after hostOps1 _ (Proc.devRef .tc main_v0_2) = _
  after_results
  simp only [StableHlo.TRef.toBuf, StableHlo.TRef.ofBuf, cast_eq]
  exact congrArg (transpose S32768x2 [1, 0] · Facts₀.transposes_S2x32768_S32768x2_1_0)
    ((Pipeline.withArrays_arr spec0 launch0.win.arr_inj c _ _ 6).trans (final_idx m c hT))

omit hT

/-- The fourth result: a zero. -/
theorem tail_zero : Pipeline.afterTail₀ cfgs (dats m) 0 (V0 m) [hostOps1] c main_v0_3
    = constant (F := Ideal) S_ .f32 0x00000000#32 := by
  unfold Pipeline.afterTail₀
  show StableHlo.after hostOps1 _ (Proc.devRef .tc main_v0_3) = _
  after_results
  rfl

end Values

/-- The routed result, tokens by experts. -/
def routedRes (c : Dev nD) : Vec Ideal S32768x64 .f32 := fun i => routedAt (kx m c) (kw m c) (kb m c) (i 1) (i 0)
/-- The routed probabilities' result, tokens by experts. -/
def rprobRes (c : Dev nD) : Vec Ideal S32768x64 .f32 := fun i => rprobAt (kx m c) (kw m c) (kb m c) (i 1) (i 0)
/-- The indices' result, tokens by places. -/
def idxRes (c : Dev nD) : Vec Ideal S32768x2 .i32 :=
  fun i => indexAt (kx m c) (kw m c) (kb m c) ((i 1 : Fin 2).castLE (by decide)) (i 0)

/-- The transposed routed array, entry by entry. -/
theorem routedRes_eq (c : Dev nD) :
    transpose S32768x64 [1, 0] (routedArr m c) Facts₀.transposes_S64x32768_S32768x64_1_0 = routedRes m c := by
  funext i
  exact (congrArg (transpose S32768x64 [1, 0] (routedArr m c) _) (eq_ix2 i)).trans (transpose_ix2_apply (routedArr m c) _ _ _)

/-- The transposed routed probabilities, entry by entry. -/
theorem rprobRes_eq (c : Dev nD) :
    transpose S32768x64 [1, 0] (rprobArr m c) Facts₀.transposes_S64x32768_S32768x64_1_0 = rprobRes m c := by
  funext i
  exact (congrArg (transpose S32768x64 [1, 0] (rprobArr m c) _) (eq_ix2 i)).trans (transpose_ix2_apply (rprobArr m c) _ _ _)

/-- The transposed indices, entry by entry. -/
theorem idxRes_eq (c : Dev nD) :
    transpose S32768x2 [1, 0] (idxArr m c) Facts₀.transposes_S2x32768_S32768x2_1_0 = idxRes m c := by
  funext i
  exact (congrArg (transpose S32768x2 [1, 0] (idxArr m c) _) (eq_ix2 i)).trans (transpose_ix2_apply (idxArr m c) _ _ _)

/-- The kernel's run: its four results at the specified arrays, its arguments unchanged. -/
theorem kernel_run (hT : ∀ c, NoTie (kx m c) (kw m c) (kb m c)) :
    θ_run defs (onTc (τ := τ) (main (F := Ideal))) ⟨m, fun _ => 0, ρ⟩ (fun r => ∀ c : Dev nD,
      (r.2.mem ((c.tc : Thread nD τ).loc main_v0_0) = routedRes m c
        ∧ r.2.mem ((c.tc : Thread nD τ).loc main_v0_1) = rprobRes m c
        ∧ r.2.mem ((c.tc : Thread nD τ).loc main_v0_2) = idxRes m c
        ∧ r.2.mem ((c.tc : Thread nD τ).loc main_v0_3) = constant (F := Ideal) S_ .f32 0x00000000#32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run defs _ _).mono (fun r h c => ⟨?_, h.2 c⟩) (θ_run_and (run_main m ρ) (unchanged m ρ))
  refine ⟨?_, ?_, ?_, ?_⟩
  · exact ((h.1 c).2 main_v0_0 (Pipeline.mem_restRefs_of main_v0_0 (by decide) (by decide))).trans
      ((tail_routed m c (hT c)).trans (routedRes_eq m c))
  · exact ((h.1 c).2 main_v0_1 (Pipeline.mem_restRefs_of main_v0_1 (by decide) (by decide))).trans
      ((tail_rprob m c (hT c)).trans (rprobRes_eq m c))
  · exact ((h.1 c).2 main_v0_2 (Pipeline.mem_restRefs_of main_v0_2 (by decide) (by decide))).trans
      ((tail_idx m c (hT c)).trans (idxRes_eq m c))
  · exact ((h.1 c).2 main_v0_3 (Pipeline.mem_restRefs_of main_v0_3 (by decide) (by decide))).trans (tail_zero m c)

end Cert.Proof

end
-- ==== Proof.Scores.lean ====
/-
  The scores both the reference and the precondition compute on the host: the logits of every token and their softmax,
  row by row.
-/
module

public import proofs.«01_k».proof.Proof.KernelRun
public import Idealize.ShloMosaic.Lib.StackMember

@[expose] public section

noncomputable section

namespace Cert.Proof

open Idealize.ShloMosaic Idealize.ShloMosaic.ValueIdx
open scoped BigOperators

section Scores

variable (x : FVec Ideal (Mat 32768 768) .f32) (w : FVec Ideal (Mat 768 64) .f32) (b : FVec Ideal (Row 64) .f32)

/-- The host's logits of all tokens, as its operations write them. -/
def hostLogits (d : DotDims (Mat 32768 768) (Mat 768 64) (Mat 32768 64))
    (hb : (Row 64).BroadcastsInDim (Mat 1 64) (![1] : Fin 1 → Fin (Mat 1 64).rank))
    (hB : (Mat 1 64).BroadcastsInDim (Mat 32768 64) (![0, 1] : Fin 2 → Fin (Mat 32768 64).rank)) : FVec Ideal (Mat 32768 64) .f32 :=
  addf (Host.dotGeneral d none x w) (broadcastInDim (Mat 32768 64) ![0, 1] hB (broadcastInDim (Mat 1 64) ![1] hb b))

/-- A row of them is its token's logits. -/
theorem hostLogits_apply (d) (hd : d = DotDims.plain 32768 768 64) (hb hB) (r : Fin 32768) (e : Fin 64) :
    hostLogits x w b d hb hB (ix2 r e) = tokRow x w b r e := by
  subst hd
  unfold hostLogits tokRow
  rw [addf_apply, StackMember.dotGeneral_plain_apply, Routing.bcCols]

/-- The host's scores of all tokens. -/
def scores (d : DotDims (Mat 32768 768) (Mat 768 64) (Mat 32768 64))
    (hb : (Row 64).BroadcastsInDim (Mat 1 64) (![1] : Fin 1 → Fin (Mat 1 64).rank))
    (hB : (Mat 1 64).BroadcastsInDim (Mat 32768 64) (![0, 1] : Fin 2 → Fin (Mat 32768 64).rank))
    (h0 : (⟨0, ![]⟩ : Shape).BroadcastsInDim (Row 32768) (![] : Fin 0 → Fin (Row 32768).rank))
    (h1 : (Row 32768).BroadcastsInDim (Mat 32768 1) (![0] : Fin 1 → Fin (Mat 32768 1).rank))
    (h2 : (Mat 32768 1).BroadcastsInDim (Mat 32768 64) (![0, 1] : Fin 2 → Fin (Mat 32768 64).rank))
    (hr : (Mat 32768 64).ReducesTo [1] (Row 32768)) (hu : 0 < (⟨0, ![]⟩ : Shape).numel) : FVec Ideal (Mat 32768 64) .f32 :=
  hostSoft (hostLogits x w b d hb hB) h0 h1 h2 hr hu

/-- A row of them is its token's softmax. -/
theorem scores_apply (d) (hd : d = DotDims.plain 32768 768 64) (hb hB h0 h1 h2 hr hu) (r : Fin 32768) (e : Fin 64) :
    scores x w b d hb hB h0 h1 h2 hr hu (ix2 r e) = prob (tokRow x w b r) e := by
  unfold scores
  rw [hostSoft_apply _ _ _ _ _ _ (by decide)]
  exact congrArg (fun L => prob L e) (funext fun k => hostLogits_apply x w b d hd hb hB r k)

/-- A row of them, whole. -/
theorem scores_row (d) (hd : d = DotDims.plain 32768 768 64) (hb hB h0 h1 h2 hr hu) (r : Fin 32768) :
    (fun e => scores x w b d hb hB h0 h1 h2 hr hu (ix2 r e)) = prob (tokRow x w b r) :=
  funext fun e => scores_apply x w b d hd hb hB h0 h1 h2 hr hu r e

end Scores

end Cert.Proof

end
-- ==== Proof.PreRead.lean ====
/-
  What the precondition says: no token's first three probabilities tie.
-/
module

public import proofs.«01_k».proof.Proof.Scores
public import proofs.«01_k».proof.Proof.Gen.Pre_untied
public import Idealize.ShloMosaic.Lib.ReduceAll

@[expose] public section

set_option maxRecDepth 8192

noncomputable section

namespace Cert.Proof

open Cert.Pre_untied Cert.Pre_untied.Gen
open Idealize.ShloMosaic Idealize.ShloMosaic.ValueIdx

variable (x : FVec Ideal (Mat 32768 768) .f32) (w : FVec Ideal (Mat 768 64) .f32) (b : FVec Ideal (Row 64) .f32)

/-- The scores as the precondition writes them. -/
def preScores : FVec Ideal (Mat 32768 64) .f32 :=
  scores x w b dot_S32768x768_S768x64_S32768x64_1_0_0_1_n_n Facts.bcast_S64_S1x64_1 Facts.bcast_S1x64_S32768x64_0_1
    Facts.bcast_S_S32768 Facts.bcast_S32768_S32768x1_0 Facts.bcast_S32768x1_S32768x64_0_1
    Facts.reducesTo_S32768x64_S32768_d1 Facts.h_S_

/-- A row of them is its token's softmax. -/
theorem preScores_row (r : Fin 32768) : (fun e => preScores x w b (ix2 r e)) = prob (tokRow x w b r) :=
  scores_row x w b dot_S32768x768_S768x64_S32768x64_1_0_0_1_n_n rfl _ _ _ _ _ _ _ r

/-- The three sorted scores of every token. -/
def preValues : FVec Ideal (Mat 32768 3) .f32 :=
  (Host.topK (Mat 32768 3) 1 (FloatOps.cmpfTotal (F := Ideal) (φ := .f32) .gt) (preScores x w b) Facts.sliceFits_S32768x64_S32768x3).1

/-- Whether a token's scores at places `o` and `o'` differ, token by token. -/
def preStrict : IVec (Row 32768) 1 :=
  andi
    (cmpf .ogt (shapeCast S32768 (extractStridedSlice S32768x1 ![0, 0] (preValues x w b) Facts.slices_S32768x3_S32768x1_0_0) Facts.shapeCasts_S32768x1_S32768)
      (shapeCast S32768 (extractStridedSlice S32768x1 ![0, 1] (preValues x w b) Facts.slices_S32768x3_S32768x1_0_1) Facts.shapeCasts_S32768x1_S32768))
    (cmpf .ogt (shapeCast S32768 (extractStridedSlice S32768x1 ![0, 1] (preValues x w b) Facts.slices_S32768x3_S32768x1_0_1) Facts.shapeCasts_S32768x1_S32768)
      (shapeCast S32768 (extractStridedSlice S32768x1 ![0, 2] (preValues x w b) Facts.slices_S32768x3_S32768x1_0_2) Facts.shapeCasts_S32768x1_S32768))

/-- The precondition is the conjunction of those over the tokens. -/
theorem fn_eq : Cert.Pre_untied.fn (F := Ideal) x w b
    = Host.reduce IntOp.andi (preStrict x w b) (constantI S_ 1 1#1) Facts.reducesTo_S32768_S_d0 Facts.h_S_ := rfl

/-- A column of the sorted scores. -/
theorem column_apply (o : ℕ) (ho : o < 3) (h : (Mat 32768 3).Slices ![0, o] (Mat 32768 1)) (hc : (Mat 32768 1).ShapeCasts (Row 32768))
    (r : Fin 32768) : shapeCast (Row 32768) (extractStridedSlice (Mat 32768 1) ![0, o] (preValues x w b) h) hc (ix1 r)
      = prob (tokRow x w b r) (place (prob (tokRow x w b r)) ⟨o, by omega⟩) := by
  rw [Routing.cast21 _ hc r (0 : Fin 1) r (by show r.val = r.val * 1 + 0; omega),
    slice2_axis1_apply o (preValues x w b) h r 0 ⟨o, ho⟩ rfl]
  unfold preValues
  rw [topK_val _ _ r ⟨o, ho⟩ (by show o < 64; omega)]
  rw [preScores_row]
  exact congrFun (preScores_row x w b r) _

/-- A comparison that came out one. -/
theorem lt_of_ogt {p q : EReal} (h : FloatOps.cmpf (F := Ideal) (φ := .f32) .ogt p q = 1#1) : q < p := by
  have h' : BitVec.ofBool (decide (q < p)) = 1#1 := h
  by_contra hn
  rw [decide_eq_false hn] at h'
  exact absurd h' (by decide)

/-- Where the precondition holds no token's first three probabilities tie. -/
theorem noTie_of_fn (h : ∀ i, Cert.Pre_untied.fn (F := Ideal) x w b i = 1#1) : NoTie x w b := by
  intro r
  have hr : preStrict x w b (ix1 r) = 1#1 := by
    have h0 := h ix0
    rw [fn_eq] at h0
    haveI : Subsingleton S_.Idx := ⟨fun i j => (eq_ix0 i).trans (eq_ix0 j).symm⟩
    exact Host.reduce_andi_all _ _ _ _ ix0 h0 (ix1 r)
  obtain ⟨h1, h2⟩ := IntOp.andi_eq_one.1 hr
  have g1 := (column_apply x w b 0 (by decide) Facts.slices_S32768x3_S32768x1_0_0 Facts.shapeCasts_S32768x1_S32768 r)
  have g2 := (column_apply x w b 1 (by decide) Facts.slices_S32768x3_S32768x1_0_1 Facts.shapeCasts_S32768x1_S32768 r)
  have g3 := (column_apply x w b 2 (by decide) Facts.slices_S32768x3_S32768x1_0_2 Facts.shapeCasts_S32768x1_S32768 r)
  exact topTwo_place _ ((lt_of_ogt h1).trans_eq g1 |> g2.symm.trans_lt) ((lt_of_ogt h2).trans_eq g2 |> g3.symm.trans_lt)

end Cert.Proof

end
-- ==== Proof.RefValue.lean ====
/-
  The reference's results over the extended reals, entry by entry: the indices, the one-hot choices its scatter sets, their
  running counts, and what the capacity leaves of them.
-/
module

public import proofs.«01_k».proof.Proof.PreRead
public import proofs.«01_k».proof.Proof.Gen.ReferenceIdeal
public import Idealize.ShloMosaic.Lib.Routing.OpsPair
public import Idealize.ShloMosaic.Lib.Routing.OpsSet

@[expose] public section

set_option maxRecDepth 8192

noncomputable section

namespace Cert.Proof

open Cert.ReferenceIdeal Cert.ReferenceIdeal.Gen
open Idealize.ShloMosaic Idealize.ShloMosaic.ValueIdx
open scoped BigOperators

/-! ## Where the scatter writes -/

/-- The tokens' own numbers as index words, the negative ones wrapped (there are none). -/
def rowCol : IVec S32768x1 32 :=
  select (cmpi .slt (broadcastInDim S32768x1 ![0] Facts₀.bcast_S32768_S32768x1_0 (iotaInDim S32768 32 0)) (broadcastInDim S32768x1 ![] Facts₀.bcast_S_S32768x1 (constantI S_ 32 0#32)))
    (addi (broadcastInDim S32768x1 ![0] Facts₀.bcast_S32768_S32768x1_0 (iotaInDim S32768 32 0)) (broadcastInDim S32768x1 ![] Facts₀.bcast_S_S32768x1 (constantI S_ 32 32768#32)))
    (broadcastInDim S32768x1 ![0] Facts₀.bcast_S32768_S32768x1_0 (iotaInDim S32768 32 0))

/-- The same, at both places of a token. -/
def rowWords : IVec S32768x2x1 32 :=
  broadcastInDim S32768x2x1 ![0, 1] Facts₀.bcast_S32768x2_S32768x2x1_0_1 (broadcastInDim S32768x2 ![0, 1] Facts₀.bcast_S32768x1_S32768x2_0_1 rowCol)

/-- The chosen experts as index words, the negative ones wrapped (there are none). -/
def pickWords (p : IVec S32768x2 32) : IVec S32768x2x1 32 :=
  broadcastInDim S32768x2x1 ![0, 1] Facts₀.bcast_S32768x2_S32768x2x1_0_1
    (select (cmpi .slt p (broadcastInDim S32768x2 ![] Facts₀.bcast_S_S32768x2 (constantI S_ 32 0#32)))
      (addi p (broadcastInDim S32768x2 ![] Facts₀.bcast_S_S32768x2 (constantI S_ 32 64#32))) p)

/-- The scatter's index pairs. -/
def targets (p : IVec S32768x2 32) : IVec S32768x2x2 32 :=
  concatenate S32768x2x2 2 [⟨S32768x2x1, rowWords⟩, ⟨S32768x2x1, pickWords p⟩] Facts₀.concatenates_S32768x2x1_S32768x2x1_S32768x2x2_d2

/-- A token's number, as a word. -/
theorem rowCol_apply (r : Fin 32768) : rowCol (ix2 r (0 : Fin 1)) = BitVec.ofNat 32 r.val := by
  have hb : broadcastInDim S32768x1 ![0] Facts₀.bcast_S32768_S32768x1_0 (iotaInDim S32768 32 0) (ix2 r (0 : Fin 1)) = BitVec.ofNat 32 r.val :=
    Routing.bcCol _ _ r
  show Scalar.select (IntOp.cmpi .slt (broadcastInDim S32768x1 ![0] Facts₀.bcast_S32768_S32768x1_0 (iotaInDim S32768 32 0) (ix2 r (0 : Fin 1))) 0#32) _
    (broadcastInDim S32768x1 ![0] Facts₀.bcast_S32768_S32768x1_0 (iotaInDim S32768 32 0) (ix2 r (0 : Fin 1))) = _
  rw [hb]
  have hr := r.isLt
  exact Routing.wrap_of_lt _ _ (by rw [BitVec.toNat_ofNat, Nat.mod_eq_of_lt (by omega)]; omega)

/-- A matrix with a trailing axis of one, read. -/
theorem trail_apply {α : Type} (v : S32768x2.Idx → α) (r : Fin 32768) (n : Fin 2) :
    broadcastInDim S32768x2x1 ![0, 1] Facts₀.bcast_S32768x2_S32768x2x1_0_1 v (ix3 r n (0 : Fin 1)) = v (ix2 r n) :=
  broadcastInDim_apply _ _ v _ _ fun a => by
    match a with
    | ⟨0, _⟩ => rfl
    | ⟨1, _⟩ => rfl

/-- The row word of a token's place. -/
theorem rowWords_apply (r : Fin 32768) (n : Fin 2) : rowWords (ix3 r n (0 : Fin 1)) = BitVec.ofNat 32 r.val := by
  unfold rowWords
  rw [trail_apply, broadcastInDim_apply _ Facts₀.bcast_S32768x1_S32768x2_0_1 rowCol (ix2 r n) (ix2 r (0 : Fin 1)) fun a => by
    match a with
    | ⟨0, _⟩ => rfl
    | ⟨1, _⟩ => rfl]
  exact rowCol_apply r

/-- The expert word of a token's place. -/
theorem pickWords_apply (p : IVec S32768x2 32) (r : Fin 32768) (n : Fin 2) (h : (p (ix2 r n)).toNat < 64) :
    pickWords p (ix3 r n (0 : Fin 1)) = p (ix2 r n) := by
  unfold pickWords
  rw [trail_apply]
  exact Routing.wrap_of_lt _ _ (lt_trans h (by decide))

/-- The pair's first word. -/
theorem targets_row (p : IVec S32768x2 32) (r : Fin 32768) (n : Fin 2) : targets p (ix3 r n (0 : Fin 2)) = BitVec.ofNat 32 r.val :=
  (concatenate_pair_apply_left 2 rowWords (pickWords p) Facts₀.concatenates_S32768x2x1_S32768x2x1_S32768x2x2_d2 (ix3 r n (0 : Fin 2)) rfl
    (ix3 r n (0 : Fin 1)) fun a => by
      match a with
      | ⟨0, _⟩ => rfl
      | ⟨1, _⟩ => rfl
      | ⟨2, _⟩ => rfl).trans (rowWords_apply r n)

/-- The pair's second word. -/
theorem targets_pick (p : IVec S32768x2 32) (r : Fin 32768) (n : Fin 2) (h : (p (ix2 r n)).toNat < 64) :
    targets p (ix3 r n (1 : Fin 2)) = p (ix2 r n) :=
  (concatenate_pair_apply_right 2 rowWords (pickWords p) Facts₀.concatenates_S32768x2x1_S32768x2x1_S32768x2x2_d2 (ix3 r n (1 : Fin 2)) rfl rfl
    (ix3 r n (0 : Fin 1)) (fun a ha => by
      match a with
      | ⟨0, _⟩ => rfl
      | ⟨1, _⟩ => rfl
      | ⟨2, _⟩ => exact absurd rfl ha) rfl).trans (pickWords_apply p r n h)

/-! ## The one-hot choices -/

/-- The one-hot choices, as the reference scatters them. -/
def choices (p : IVec S32768x2 32) : FVec Ideal S32768x64 .f32 :=
  Host.scatter scatter_S32768x64_S32768x2x2_S32768x2_n_01_01_2 (fun _ b => b)
    (broadcastInDim S32768x64 ![] Facts₀.bcast_S_S32768x64 (constant (F := Ideal) S_ .f32 0x00000000#32)) (targets p)
    (broadcastInDim S32768x2 ![] Facts₀.bcast_S_S32768x2 (constant (F := Ideal) S_ .f32 0x3F800000#32))

/-- A word below `2 ^ 31` read signed. -/
theorem toInt_small (n k : ℕ) (hn : n < 2 ^ 31) : (BitVec.ofNat 32 n).toInt = (k : ℤ) ↔ n = k := by
  rw [BitVec.toInt_ofNat']
  simp only [Int.bmod]
  omega

/-- An entry of them: one where the token's pick is that expert. -/
theorem choices_apply (p : IVec S32768x2 32) (g : Fin 32768 → Fin 2 → Fin 64) (hp : ∀ r n, p (ix2 r n) = BitVec.ofNat 32 (g r n).val)
    (r : Fin 32768) (e : Fin 64) : choices p (ix2 r e) = ((if e = g r 0 ∨ e = g r 1 then 1 else 0 : ℕ) : EReal) := by
  have hlt : ∀ r n, (p (ix2 r n)).toNat < 64 := fun r n => by
    have := (g r n).isLt
    rw [hp, BitVec.toNat_ofNat, Nat.mod_eq_of_lt (by omega)]
    exact this
  have hl : ∀ (r' : Fin 32768) (n : Fin 2),
      scatter_S32768x64_S32768x2x2_S32768x2_n_01_01_2.resultIdx? (ix2 r' n) (targets p) = some (ix2 r e) ↔ r' = r ∧ g r' n = e := fun r' n => by
    rw [Routing.scatter_lands2 scatter_S32768x64_S32768x2x2_S32768x2_n_01_01_2 rfl rfl rfl, targets_row, targets_pick p r' n (hlt r' n), hp,
      toInt_small _ _ (by have := r'.isLt; omega), toInt_small _ _ (by have := (g r' n).isLt; omega), Fin.val_inj, Fin.val_inj]
  unfold choices
  by_cases h : e = g r 0 ∨ e = g r 1
  · rw [if_pos h, Nat.cast_one]
    obtain ⟨n, hn⟩ : ∃ n : Fin 2, g r n = e := h.elim (fun h => ⟨0, h.symm⟩) (fun h => ⟨1, h.symm⟩)
    exact Routing.scatter_set_hit _ _ _ _ _ 1 (fun k _ => (Routing.bc0 _ _ k).trans Ideal.ofBits_one_f32) (ix2 r n) ((hl r n).2 ⟨rfl, hn⟩)
  · rw [if_neg h, Nat.cast_zero]
    refine (Routing.scatter_set_miss _ _ _ _ _ fun k hk => h ?_).trans ((Routing.bc0 _ _ _).trans Ideal.ofBits_zero_f32)
    have hk' : scatter_S32768x64_S32768x2x2_S32768x2_n_01_01_2.resultIdx? (ix2 (k 0) (k 1)) (targets p) = some (ix2 r e) :=
      (congrArg (fun k => scatter_S32768x64_S32768x2x2_S32768x2_n_01_01_2.resultIdx? k (targets p)) (eq_ix2 k).symm).trans hk
    obtain ⟨h1, h2⟩ := (hl _ _).1 hk'
    rw [h1] at h2
    have hn : ∀ n : Fin 2, g r n = e → e = g r 0 ∨ e = g r 1 := fun n hn => by
      match n with
      | ⟨0, _⟩ => exact Or.inl hn.symm
      | ⟨1, _⟩ => exact Or.inr hn.symm
    exact hn (k 1) h2

/-! ## The running counts and the capacity -/

/-- The running counts of the choices. -/
def counts (c : FVec Ideal S32768x64 .f32) : FVec Ideal S32768x64 .f32 :=
  Host.reduceWindowAdd ![32768, 1] ![1, 1] ![32767, 0] ![0, 0] c (broadcastInDim S_ ![] Facts₀.bcast_S_S_ (constant (F := Ideal) S_ .f32 0x00000000#32))
    Facts₀.reduceWindows_S32768x64_S32768x64_w32768s1p32767_0_w1s1p0_0 Facts₀.h_S_

/-- The choices the capacity leaves. -/
def refRouted (p : IVec S32768x2 32) : FVec Ideal S32768x64 .f32 :=
  mulf (choices p) (uitofp .f32 (cmpf .ole (counts (choices p)) (broadcastInDim S32768x64 ![] Facts₀.bcast_S_S32768x64 (constant (F := Ideal) S_ .f32 0x44200000#32))))

section Values

variable (x : FVec Ideal (Mat 32768 768) .f32) (w : FVec Ideal (Mat 768 64) .f32) (b : FVec Ideal (Row 64) .f32)

/-- The scores as the reference writes them. -/
def refScores : FVec Ideal S32768x64 .f32 :=
  scores x w b dot_S32768x768_S768x64_S32768x64_1_0_0_1_n_n Facts₀.bcast_S64_S1x64_1 Facts₀.bcast_S1x64_S32768x64_0_1
    Facts₀.bcast_S_S32768 Facts₀.bcast_S32768_S32768x1_0 Facts₀.bcast_S32768x1_S32768x64_0_1
    Facts₀.reducesTo_S32768x64_S32768_d1 Facts₀.h_S_

/-- A row of them is its token's softmax. -/
theorem refScores_row (r : Fin 32768) : (fun e => refScores x w b (ix2 r e)) = prob (tokRow x w b r) :=
  scores_row x w b dot_S32768x768_S768x64_S32768x64_1_0_0_1_n_n rfl _ _ _ _ _ _ _ r

/-- The reference's indices. -/
def refPicks : IVec S32768x2 32 :=
  (Host.topK S32768x2 1 (FloatOps.cmpfTotal (F := Ideal) (φ := .f32) .gt) (refScores x w b) Facts₀.sliceFits_S32768x64_S32768x2).2

/-- An index is the expert at that place. -/
theorem refPicks_apply (r : Fin 32768) (n : Fin 2) : refPicks x w b (ix2 r n) = indexAt x w b (n.castLE (by decide)) r := by
  unfold refPicks indexAt expert
  rw [topK_idx _ _ r n (by have := n.isLt; omega), refScores_row, tok_val]
  rfl

/-- The choices of the reference's picks. -/
theorem choices_picks (r : Fin 32768) (e : Fin 64) : choices (refPicks x w b) (ix2 r e) = ((hot x w b e r.val : ℕ) : EReal) :=
  choices_apply (refPicks x w b) (fun r n => expert x w b (n.castLE (by decide)) r.val) (fun r n => refPicks_apply x w b r n) r e

/-- A sum over a list of first numbers, as a sum over the range. -/
theorem sum_list_range (f : ℕ → ℕ) (n : ℕ) : ((List.range n).map f).sum = ∑ i ∈ Finset.range n, f i := by
  induction n with
  | zero => rfl
  | succ n ih => rw [List.range_succ, List.map_append, List.sum_append, ih, Finset.sum_range_succ]; simp

/-- The running counts of the reference's picks. -/
theorem counts_picks (r : Fin 32768) (e : Fin 64) :
    counts (choices (refPicks x w b)) (ix2 r e) = ((cnt x w b e (r.val + 1) : ℕ) : EReal) := by
  unfold counts
  have h0 : broadcastInDim S_ ![] Facts₀.bcast_S_S_ (constant (F := Ideal) S_ .f32 0x00000000#32) ix0 = 0 :=
    (Routing.bc0 _ _ _).trans Ideal.ofBits_zero_f32
  have h := cumsum_col (N := 32768) (M := 32767) (C := 64) (by decide) (choices (refPicks x w b)) e (hot x w b e)
    (fun i => choices_picks x w b i e) _ h0 Facts₀.reduceWindows_S32768x64_S32768x64_w32768s1p32767_0_w1s1p0_0 Facts₀.h_S_ r
  rw [sum_list_range] at h
  exact h

/-- An entry of a count masked by another count's staying within the capacity. -/
theorem capped_apply {s : Shape} (h c k : FVec Ideal s .f32) (i : s.Idx) (n l : ℕ) (hh : h i = ((n : ℕ) : EReal)) (hc : c i = ((l : ℕ) : EReal))
    (hk : k i = ((640 : ℝ) : EReal)) : mulf h (uitofp .f32 (cmpf .ole c k)) i = ((if l ≤ 640 then n else 0 : ℕ) : EReal) := by
  show h i * (((BitVec.ofBool (decide (c i ≤ k i))).toNat : ℕ) : EReal) = _
  rw [hh, hc, hk]
  have hw : ((l : ℕ) : EReal) ≤ ((640 : ℝ) : EReal) ↔ l ≤ 640 := by
    have h := within_iff l 0
    rw [Nat.cast_zero, sub_zero, zero_add] at h
    exact h
  by_cases q : l ≤ 640
  · rw [decide_eq_true (hw.2 q), if_pos q]
    show _ * ((1 : ℕ) : EReal) = _
    rw [Nat.cast_one, mul_one]
  · rw [decide_eq_false (fun p => q (hw.1 p)), if_neg q]
    show _ * ((0 : ℕ) : EReal) = _
    rw [Nat.cast_zero, mul_zero]

/-- The reference's routed entries. -/
theorem refRouted_apply (r : Fin 32768) (e : Fin 64) : refRouted (refPicks x w b) (ix2 r e) = routedAt x w b e r := by
  unfold refRouted routedAt
  exact capped_apply _ _ _ _ _ _ (choices_picks x w b r e) (counts_picks x w b r e) ((Routing.bc0 _ _ _).trans ofBits_640)

/-- The reference's routed probabilities. -/
theorem refRprob_apply (r : Fin 32768) (e : Fin 64) :
    mulf (refRouted (refPicks x w b)) (refScores x w b) (ix2 r e) = rprobAt x w b e r := by
  rw [mulf_apply, refRouted_apply]
  exact congrArg (routedAt x w b e r * ·) (congrFun (refScores_row x w b r) e)

end Values

end Cert.Proof

end
-- ==== Proof.RefRun.lean ====
/-
  The reference's run over the extended reals: its composed results are the specified arrays.
-/
module

public import proofs.«01_k».proof.Proof.RefValue
public import proofs.«01_k».proof.Proof.Gen.ReferenceIdeal.Run

@[expose] public section

set_option maxRecDepth 16384

noncomputable section

namespace Cert.Proof

open Cert.ReferenceIdeal Cert.ReferenceIdeal.Gen
open Idealize.ShloMosaic Idealize.ShloMosaic.TcCoe Idealize.ShloMosaic.ValueIdx
open Idealize.SL.Sem

variable (m : (ℓ : Loc nD τ sig) → Buf (Elt Ideal) ℓ) (ρ : Dev nD → PrngReg) (c : Dev nD)

/-- The tokens as launched. -/
abbrev rx : FVec Ideal (Mat 32768 768) .f32 := m ((c.tc : Thread nD τ).loc main_arg0)
/-- The weights as launched. -/
abbrev rw' : FVec Ideal (Mat 768 64) .f32 := m ((c.tc : Thread nD τ).loc main_arg1)
/-- The bias as launched. -/
abbrev rb : FVec Ideal (Row 64) .f32 := m ((c.tc : Thread nD τ).loc main_arg2)

/-- The reference's first result. -/
theorem res_routed : Cert.ReferenceIdeal.Value.res_main_v38 m c = refRouted (refPicks (rx m c) (rw' m c) (rb m c)) := by
  unfold Cert.ReferenceIdeal.Value.res_main_v38
  rfl

/-- The reference's second result. -/
theorem res_rprob : Cert.ReferenceIdeal.Value.res_main_v39 m c
    = mulf (refRouted (refPicks (rx m c) (rw' m c) (rb m c))) (refScores (rx m c) (rw' m c) (rb m c)) := by
  unfold Cert.ReferenceIdeal.Value.res_main_v39
  rfl

/-- The reference's run: its four results at the specified arrays, its arguments unchanged. -/
theorem reference_run : θ_run defs (onTc (τ := τ) (main (F := Ideal))) ⟨m, fun _ => 0, ρ⟩ (fun r => ∀ c : Dev nD,
      (r.2.mem ((c.tc : Thread nD τ).loc main_v38) = refRouted (refPicks (rx m c) (rw' m c) (rb m c))
        ∧ r.2.mem ((c.tc : Thread nD τ).loc main_v39) = mulf (refRouted (refPicks (rx m c) (rw' m c) (rb m c))) (refScores (rx m c) (rw' m c) (rb m c))
        ∧ r.2.mem ((c.tc : Thread nD τ).loc main_indices) = refPicks (rx m c) (rw' m c) (rb m c)
        ∧ r.2.mem ((c.tc : Thread nD τ).loc main_cst_8) = constant (F := Ideal) S_ .f32 0x00000000#32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run _ _ _).mono (fun r h c => ⟨⟨(h c).1.trans (res_routed m c), (h c).2.1.trans (res_rprob m c), (h c).2.2.1, (h c).2.2.2.1⟩, (h c).2.2.2.2⟩)
    (Cert.ReferenceIdeal.Value.run m ρ)

end Cert.Proof

end
-- ==== Proof.Agree.lean ====
/-
  The two runs end with the same four arrays.
-/
module

public import proofs.«01_k».proof.Defs
public import proofs.«01_k».proof.Proof.RefRun

@[expose] public section

set_option maxRecDepth 8192

noncomputable section

namespace Cert.Proof

open Idealize.ShloMosaic Idealize.ShloMosaic.ValueIdx
open Idealize.SL.Sem

section Arrays

variable (m : (ℓ : Loc Cert.KernelIdeal.nD Cert.KernelIdeal.τ Cert.KernelIdeal.sig) → Buf (Elt Ideal) ℓ) (c : Dev Cert.KernelIdeal.nD)

/-- The reference's first result on the kernel's arguments is the kernel's. -/
theorem routed_agree : refRouted (refPicks (kx m c) (kw m c) (kb m c)) = routedRes m c := by
  funext i
  rw [eq_ix2 i]
  exact refRouted_apply _ _ _ (i 0) (i 1)

/-- The reference's second result on the kernel's arguments is the kernel's. -/
theorem rprob_agree :
    mulf (refRouted (refPicks (kx m c) (kw m c) (kb m c))) (refScores (kx m c) (kw m c) (kb m c)) = rprobRes m c := by
  funext i
  rw [eq_ix2 i]
  exact refRprob_apply _ _ _ (i 0) (i 1)

/-- The reference's third result on the kernel's arguments is the kernel's. -/
theorem idx_agree : refPicks (kx m c) (kw m c) (kb m c) = idxRes m c := by
  funext i
  rw [eq_ix2 i]
  exact refPicks_apply _ _ _ (i 0) (i 1)

end Arrays

/-- Over the extended reals, where no token's first three probabilities tie, the kernel's four results are the
    reference's. -/
theorem agree : Cert.algebraic_KernelIdeal_ReferenceIdeal := by
  intro m g m' g' hpre hin
  have hT : ∀ c, NoTie (kx m c) (kw m c) (kb m c) := fun c => noTie_of_fn _ _ _ fun i => congrFun (hpre c) i
  have e0 : ∀ c, rx m' c = kx m c := fun c => (hin c).1
  have e1 : ∀ c, rw' m' c = kw m c := fun c => (hin c).2.1
  have e2 : ∀ c, rb m' c = kb m c := fun c => (hin c).2.2
  refine ⟨routedRes m, rprobRes m, idxRes m, fun _ => constant (F := Ideal) Cert.KernelIdeal.S_ .f32 0x00000000#32, ?_, ?_⟩
  · exact (θ_run _ _ _).mono (fun r h c => ⟨(h c).1.1, (h c).1.2.1, (h c).1.2.2.1, (h c).1.2.2.2, (h c).2.1, (h c).2.2.1, (h c).2.2.2⟩)
      (kernel_run m g hT)
  · refine (θ_run _ _ _).mono (fun r h c => ⟨(h c).1.1.trans ?_, (h c).1.2.1.trans ?_, (h c).1.2.2.1.trans ?_, (h c).1.2.2.2,
      (h c).2.1, (h c).2.2.1, (h c).2.2.2⟩) (reference_run m' g')
    · rw [e0, e1, e2]; exact routed_agree m c
    · rw [e0, e1, e2]; exact rprob_agree m c
    · rw [e0, e1, e2]; exact idx_agree m c

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_untied
public import Idealize.ShloMosaic.Adequacy
public import Idealize.ShloMosaic.Init
public import proofs.«01_k».proof.Proof.Gen.ReferenceIdeal.Run
public import proofs.«01_k».proof.Proof.Agree

@[expose] public section

noncomputable section

namespace Cert.Proof

open Idealize.ShloMosaic Idealize.SL.Sem Cert.Kernel

/-- The reference runs, leaves its arguments unchanged and ends with every semaphore at zero. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  (θ_run _ _ _).mono (fun r h => ⟨fun c => (h c).2.2.2.2, sem_eq_zero_of_no_sems (by decide) r.2⟩) (Cert.ReferenceIdeal.Value.run m ρ)

/-- Everything claimed: the three frames, with and without the precondition, the kernel preserved by its idealisation,
    and the kernel's results the reference's. -/
theorem claim : Cert.Claim :=
  ⟨Cert.Kernel.Gen.facts, Cert.KernelIdeal.Gen.facts, Cert.ReferenceIdeal.Gen.facts, Cert.Pre_untied.Gen.facts,
    fun m ρ _ => Cert.Kernel.Gen.frame m ρ,
    fun m ρ _ => Cert.Kernel.Gen.frame m ρ,
    fun m ρ _ => Cert.KernelIdeal.Gen.frame m ρ,
    fun m ρ _ => reference_frame m ρ,
    fun m ρ _ => reference_frame m ρ,
    trivial,
    agree⟩

end Cert.Proof

end
